-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range_and_finite : Cert.Pre_in_range_and_finite.Facts),
    quiescent_Kernel (hKernel := hKernel)
    ∧ quiescent_KernelIdeal (hKernelIdeal := hKernelIdeal)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range_and_finite.lean ====
abbrev S50000x256 : Shape := ⟨2, ![50000, 256]⟩
abbrev S50000 : Shape := ⟨1, ![50000]⟩
abbrev S4x256 : Shape := ⟨2, ![4, 256]⟩
abbrev S4x64x256 : Shape := ⟨3, ![4, 64, 256]⟩
abbrev S4x64 : Shape := ⟨2, ![4, 64]⟩
abbrev S_ : Shape := ⟨0, ![]⟩

class Facts : Prop where
  bcast_S_S50000 : S_.BroadcastsInDim S50000 (![] : Fin 0 → Fin S50000.rank)
  bcast_S_S50000x256 : S_.BroadcastsInDim S50000x256 (![] : Fin 0 → Fin S50000x256.rank)
  bcast_S_S4x256 : S_.BroadcastsInDim S4x256 (![] : Fin 0 → Fin S4x256.rank)
  bcast_S_S4x64x256 : S_.BroadcastsInDim S4x64x256 (![] : Fin 0 → Fin S4x64x256.rank)

variable [Facts]

def fn {F : FTy → Type} [FloatOps F] (main_arg0 : FVec F S50000x256 .f32) (main_arg1 : IVec S50000 32) (main_arg2 : FVec F S4x256 .f32) (main_arg3 : FVec F S4x64x256 .f32) (main_arg4 : FVec F S4x64 .f32) : IVec S50000 1 × IVec S50000x256 1 × IVec S4x256 1 × IVec S4x64x256 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 64#32
  let main_v2 : IVec S50000 32 := broadcastInDim S50000 ![] bcast_S_S50000 main_c_0
  let main_v3 : IVec S50000 1 := cmpi .slt main_arg1 main_v2
  let main_v4 : IVec S50000 1 := andi main_v1 main_v3
  let main_v5 : FVec F S50000x256 .f32 := Host.absf main_arg0
  let main_cst : FVec F S_ .f32 := constant S_ .f32 0x7F800000#32
  let main_v6 : FVec F S50000x256 .f32 := broadcastInDim S50000x256 ![] bcast_S_S50000x256 main_cst
  let main_v7 : IVec S50000x256 1 := cmpf .olt main_v5 main_v6
  let main_v8 : FVec F S4x256 .f32 := Host.absf main_arg2
  let main_cst_1 : FVec F S_ .f32 := constant S_ .f32 0x7F800000#32
  let main_v9 : FVec F S4x256 .f32 := broadcastInDim S4x256 ![] bcast_S_S4x256 main_cst_1
  let main_v10 : IVec S4x256 1 := cmpf .olt main_v8 main_v9
  let main_v11 : FVec F S4x64x256 .f32 := Host.absf main_arg3
  let main_cst_2 : FVec F S_ .f32 := constant S_ .f32 0x7F800000#32
  let main_v12 : FVec F S4x64x256 .f32 := broadcastInDim S4x64x256 ![] bcast_S_S4x64x256 main_cst_2
  let main_v13 : IVec S4x64x256 1 := cmpf .olt main_v11 main_v12
  (main_v4, main_v7, main_v10, main_v13)
-- ==== Kernel.lean ====
abbrev S50000x256 : Shape := ⟨2, ![50000, 256]⟩
abbrev S50000 : Shape := ⟨1, ![50000]⟩
abbrev S4x256 : Shape := ⟨2, ![4, 256]⟩
abbrev S4x64x256 : Shape := ⟨3, ![4, 64, 256]⟩
abbrev S4x64 : Shape := ⟨2, ![4, 64]⟩
abbrev S10x1x5000 : Shape := ⟨3, ![10, 1, 5000]⟩
abbrev S64x256 : Shape := ⟨2, ![64, 256]⟩
abbrev S5000x256 : Shape := ⟨2, ![5000, 256]⟩
abbrev S1x1x5000 : Shape := ⟨3, ![1, 1, 5000]⟩
abbrev S4x1 : Shape := ⟨2, ![4, 1]⟩
abbrev S64x4 : Shape := ⟨2, ![64, 4]⟩
abbrev S256x256 : Shape := ⟨2, ![256, 256]⟩
abbrev S2x256x5000 : Shape := ⟨3, ![2, 256, 5000]⟩
abbrev S2x5000x256 : Shape := ⟨3, ![2, 5000, 256]⟩
abbrev S1x5000x256 : Shape := ⟨3, ![1, 5000, 256]⟩
abbrev S1x5000 : Shape := ⟨2, ![1, 5000]⟩
abbrev S64x5000 : Shape := ⟨2, ![64, 5000]⟩
abbrev S4x5000 : Shape := ⟨2, ![4, 5000]⟩
abbrev S4 : Shape := ⟨1, ![4]⟩
abbrev S256x5000 : Shape := ⟨2, ![256, 5000]⟩
abbrev S1x256x5000 : Shape := ⟨3, ![1, 256, 5000]⟩
abbrev S64x1 : Shape := ⟨2, ![64, 1]⟩
abbrev S1x64x256 : Shape := ⟨3, ![1, 64, 256]⟩
abbrev S64x64 : Shape := ⟨2, ![64, 64]⟩
abbrev S1x64 : Shape := ⟨2, ![1, 64]⟩

abbrev nBuf : Space → Nat
  | .hbm => 8
  | .vmem => 13
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S4x256, .f32⟩
  | .hbm, ⟨3, _⟩ => ⟨S4x64x256, .f32⟩
  | .hbm, ⟨4, _⟩ => ⟨S4x64, .f32⟩
  | .hbm, ⟨5, _⟩ => ⟨S50000, .i16⟩
  | .hbm, ⟨6, _⟩ => ⟨S10x1x5000, .i16⟩
  | .hbm, ⟨7, _⟩ => ⟨S64x256, .f32⟩
  | .local _ .vmem, ⟨0, _⟩ => ⟨S5000x256, .f32⟩
  | .local _ .vmem, ⟨1, _⟩ => ⟨S5000x256, .f32⟩
  | .local _ .vmem, ⟨2, _⟩ => ⟨S1x1x5000, .i16⟩
  | .local _ .vmem, ⟨3, _⟩ => ⟨S1x1x5000, .i16⟩
  | .local _ .vmem, ⟨4, _⟩ => ⟨S4x256, .f32⟩
  | .local _ .vmem, ⟨5, _⟩ => ⟨S4x64x256, .f32⟩
  | .local _ .vmem, ⟨6, _⟩ => ⟨S4x64, .f32⟩
  | .local _ .vmem, ⟨7, _⟩ => ⟨S64x256, .f32⟩
  | .local _ .vmem, ⟨8, _⟩ => ⟨S4x1, .f32⟩
  | .local _ .vmem, ⟨9, _⟩ => ⟨S64x4, .f32⟩
  | .local _ .vmem, ⟨10, _⟩ => ⟨S256x256, .f32⟩
  | .local _ .vmem, ⟨11, _⟩ => ⟨S2x256x5000, .bf16⟩
  | .local _ .vmem, ⟨12, _⟩ => ⟨S2x5000x256, .bf16⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c10_i32 : BitVec 32 := 10#32
  let v3 : BitVec 1 := Scalar.cmpi .slt arg0 c10_i32
  let v4 : BitVec 32 := Scalar.extui v3
  let c0_i32 : BitVec 32 := 0#32
  let v5 : BitVec 1 := Scalar.cmpi .ne v4 c0_i32
  v5

def k0_off1 (i : grid0.Coords) : Fin 3 → Nat :=
  let arg0 : BitVec 32 := BitVec.ofNat 32 (i 0).val
  let c2_i32 : BitVec 32 := 2#32
  let v0 : BitVec 32 := Scalar.remsi arg0 c2_i32
  let v14 : Index := Scalar.indexCast v0
  let c0_6 : Index := 0#32
  let c0_7 : Index := 0#32
  ![v14.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v63 : Index := Scalar.indexCast v0
  let c0_28 : Index := 0#32
  let c0_29 : Index := 0#32
  ![v63.toNat, 0, 0]
def k0_cond3 (i : grid0.Coords) : BitVec 1 :=
  let arg0 : BitVec 32 := BitVec.ofNat 32 (i 0).val
  let c0_i32_1 : BitVec 32 := 0#32
  let v6 : BitVec 1 := Scalar.cmpi .sgt arg0 c0_i32_1
  let v7 : BitVec 32 := Scalar.extui v6
  let c0_i32_2 : BitVec 32 := 0#32
  let v8 : BitVec 1 := Scalar.cmpi .ne v7 c0_i32_2
  v8

def k0_off3 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v13 : Index := Scalar.indexCast v2
  let c0_6 : Index := 0#32
  let c0_7 : Index := 0#32
  ![v13.toNat, 0, 0]
def k0_off4 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v16 : Index := Scalar.indexCast v2
  let c0_8 : Index := 0#32
  let c0_9 : Index := 0#32
  ![v16.toNat, 0, 0]
def k0_cond4 (i : grid0.Coords) : BitVec 1 :=
  let arg0 : BitVec 32 := BitVec.ofNat 32 (i 0).val
  let c10_i32_3 : BitVec 32 := 10#32
  let v9 : BitVec 1 := Scalar.cmpi .eq arg0 c10_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5000 .i16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S50000x256 : Shape := ⟨2, ![50000, 256]⟩
abbrev S50000 : Shape := ⟨1, ![50000]⟩
abbrev S4x256 : Shape := ⟨2, ![4, 256]⟩
abbrev S4x64x256 : Shape := ⟨3, ![4, 64, 256]⟩
abbrev S4x64 : Shape := ⟨2, ![4, 64]⟩
abbrev S1x256 : Shape := ⟨2, ![1, 256]⟩
abbrev S256 : Shape := ⟨1, ![256]⟩
abbrev S50000x1 : Shape := ⟨2, ![50000, 1]⟩
abbrev S64 : Shape := ⟨1, ![64]⟩
abbrev S1x64 : Shape := ⟨2, ![1, 64]⟩
abbrev S50000x64 : Shape := ⟨2, ![50000, 64]⟩
abbrev S_ : Shape := ⟨0, ![]⟩
abbrev S1x64x256 : Shape := ⟨3, ![1, 64, 256]⟩
abbrev S64x256 : Shape := ⟨2, ![64, 256]⟩
abbrev S256x64 : Shape := ⟨2, ![256, 64]⟩
abbrev S64x64 : Shape := ⟨2, ![64, 64]⟩

abbrev nBuf : Space → Nat
  | .hbm => 238
  | .vmem => 0
  | .smem => 0
  | _ => 0

abbrev hbmTy0_0 (i : Nat) : BufTy := match i % 128 with
  | 0 => ⟨S50000x256, .f32⟩
  | 1 => ⟨S50000, .i32⟩
  | 2 => ⟨S4x256, .f32⟩
  | 3 => ⟨S4x64x256, .f32⟩
  | 4 => ⟨S4x64, .f32⟩
  | 5 => ⟨S1x256, .f32⟩
  | 6 => ⟨S256, .f32⟩
  | 7 => ⟨S50000, .f32⟩
  | 8 => ⟨S50000x1, .i32⟩
  | 9 => ⟨S64, .i32⟩
  | 10 => ⟨S1x64, .i32⟩
  | 11 => ⟨S50000x64, .i32⟩
  | 12 => ⟨S50000x64, .i32⟩
  | 13 => ⟨S50000x64, .i1⟩
  | 14 => ⟨S50000x1, .f32⟩
  | 15 => ⟨S_, .f32⟩
  | 16 => ⟨S_, .f32⟩
  | 17 => ⟨S50000x64, .f32⟩
  | 18 => ⟨S50000x64, .f32⟩
  | 19 => ⟨S50000x64, .f32⟩
  | 20 => ⟨S_, .f32⟩
  | 21 => ⟨S64, .f32⟩
  | 22 => ⟨S_, .i32⟩
  | 23 => ⟨S50000, .i32⟩
  | 24 => ⟨S50000, .i1⟩
  | 25 => ⟨S_, .i32⟩
  | 26 => ⟨S50000, .i32⟩
  | 27 => ⟨S50000, .i32⟩
  | 28 => ⟨S50000, .i32⟩
  | 29 => ⟨S50000x1, .i32⟩
  | 30 => ⟨S50000, .f32⟩
  | 31 => ⟨S50000, .f32⟩
  | 32 => ⟨S50000, .f32⟩
  | 33 => ⟨S_, .f32⟩
  | 34 => ⟨S64, .f32⟩
  | 35 => ⟨S50000x1, .i32⟩
  | 36 => ⟨S64, .f32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000, .f32⟩
  | 46 => ⟨S50000, .f32⟩
  | 47 => ⟨S1x64x256, .f32⟩
  | 48 => ⟨S64x256, .f32⟩
  | 49 => ⟨S256x64, .f32⟩
  | 50 => ⟨S50000x64, .f32⟩
  | 51 => ⟨S1x64, .f32⟩
  | 52 => ⟨S64, .f32⟩
  | 53 => ⟨S1x64, .f32⟩
  | 54 => ⟨S50000x64, .f32⟩
  | 55 => ⟨S50000x64, .f32⟩
  | 56 => ⟨S50000x1, .f32⟩
  | 57 => ⟨S50000x64, .f32⟩
  | 58 => ⟨S50000x64, .f32⟩
  | 59 => ⟨S_, .f32⟩
  | 60 => ⟨S64x64, .f32⟩
  | 61 => ⟨S50000x1, .i32⟩
  | 62 => ⟨S64x64, .f32⟩
  | 63 => ⟨S1x256, .f32⟩
  | 64 => ⟨S256, .f32⟩
  | 65 => ⟨S50000, .f32⟩
  | 66 => ⟨S50000x1, .i32⟩
  | 67 => ⟨S64, .i32⟩
  | 68 => ⟨S1x64, .i32⟩
  | 69 => ⟨S50000x64, .i32⟩
  | 70 => ⟨S50000x64, .i32⟩
  | 71 => ⟨S50000x64, .i1⟩
  | 72 => ⟨S50000x1, .f32⟩
  | 73 => ⟨S_, .f32⟩
  | 74 => ⟨S_, .f32⟩
  | 75 => ⟨S50000x64, .f32⟩
  | 76 => ⟨S50000x64, .f32⟩
  | 77 => ⟨S50000x64, .f32⟩
  | 78 => ⟨S_, .f32⟩
  | 79 => ⟨S64, .f32⟩
  | 80 => ⟨S_, .i32⟩
  | 81 => ⟨S50000, .i32⟩
  | 82 => ⟨S50000, .i1⟩
  | 83 => ⟨S_, .i32⟩
  | 84 => ⟨S50000, .i32⟩
  | 85 => ⟨S50000, .i32⟩
  | 86 => ⟨S50000, .i32⟩
  | 87 => ⟨S50000x1, .i32⟩
  | 88 => ⟨S50000, .f32⟩
  | 89 => ⟨S50000, .f32⟩
  | 90 => ⟨S50000, .f32⟩
  | 91 => ⟨S_, .f32⟩
  | 92 => ⟨S64, .f32⟩
  | 93 => ⟨S50000x1, .i32⟩
  | 94 => ⟨S64, .f32⟩
  | 95 => ⟨S_, .i32⟩
  | 96 => ⟨S50000, .i32⟩
  | 97 => ⟨S50000, .i1⟩
  | 98 => ⟨S_, .i32⟩
  | 99 => ⟨S50000, .i32⟩
  | 100 => ⟨S50000, .i32⟩
  | 101 => ⟨S50000, .i32⟩
  | 102 => ⟨S50000x1, .i32⟩
  | 103 => ⟨S50000, .f32⟩
  | 104 => ⟨S50000, .f32⟩
  | 105 => ⟨S1x64x256, .f32⟩
  | 106 => ⟨S64x256, .f32⟩
  | 107 => ⟨S256x64, .f32⟩
  | 108 => ⟨S50000x64, .f32⟩
  | 109 => ⟨S1x64, .f32⟩
  | 110 => ⟨S64, .f32⟩
  | 111 => ⟨S1x64, .f32⟩
  | 112 => ⟨S50000x64, .f32⟩
  | 113 => ⟨S50000x64, .f32⟩
  | 114 => ⟨S50000x1, .f32⟩
  | 115 => ⟨S50000x64, .f32⟩
  | 116 => ⟨S50000x64, .f32⟩
  | 117 => ⟨S_, .f32⟩
  | 118 => ⟨S64x64, .f32⟩
  | 119 => ⟨S50000x1, .i32⟩
  | 120 => ⟨S64x64, .f32⟩
  | 121 => ⟨S1x256, .f32⟩
  | 122 => ⟨S256, .f32⟩
  | 123 => ⟨S50000, .f32⟩
  | 124 => ⟨S50000x1, .i32⟩
  | 125 => ⟨S64, .i32⟩
  | 126 => ⟨S1x64, .i32⟩
  | 127 => ⟨S50000x64, .i32⟩
  | _ => ⟨S50000x256, .f32⟩

abbrev hbmTy0_1 (i : Nat) : BufTy := match i % 128 with
  | 0 => ⟨S50000x64, .i32⟩
  | 1 => ⟨S50000x64, .i1⟩
  | 2 => ⟨S50000x1, .f32⟩
  | 3 => ⟨S_, .f32⟩
  | 4 => ⟨S_, .f32⟩
  | 5 => ⟨S50000x64, .f32⟩
  | 6 => ⟨S50000x64, .f32⟩
  | 7 => ⟨S50000x64, .f32⟩
  | 8 => ⟨S_, .f32⟩
  | 9 => ⟨S64, .f32⟩
  | 10 => ⟨S_, .i32⟩
  | 11 => ⟨S50000, .i32⟩
  | 12 => ⟨S50000, .i1⟩
  | 13 => ⟨S_, .i32⟩
  | 14 => ⟨S50000, .i32⟩
  | 15 => ⟨S50000, .i32⟩
  | 16 => ⟨S50000, .i32⟩
  | 17 => ⟨S50000x1, .i32⟩
  | 18 => ⟨S50000, .f32⟩
  | 19 => ⟨S50000, .f32⟩
  | 20 => ⟨S50000, .f32⟩
  | 21 => ⟨S_, .f32⟩
  | 22 => ⟨S64, .f32⟩
  | 23 => ⟨S50000x1, .i32⟩
  | 24 => ⟨S64, .f32⟩
  | 25 => ⟨S_, .i32⟩
  | 26 => ⟨S50000, .i32⟩
  | 27 => ⟨S50000, .i1⟩
  | 28 => ⟨S_, .i32⟩
  | 29 => ⟨S50000, .i32⟩
  | 30 => ⟨S50000, .i32⟩
  | 31 => ⟨S50000, .i32⟩
  | 32 => ⟨S50000x1, .i32⟩
  | 33 => ⟨S50000, .f32⟩
  | 34 => ⟨S50000, .f32⟩
  | 35 => ⟨S1x64x256, .f32⟩
  | 36 => ⟨S64x256, .f32⟩
  | 37 => ⟨S256x64, .f32⟩
  | 38 => ⟨S50000x64, .f32⟩
  | 39 => ⟨S1x64, .f32⟩
  | 40 => ⟨S64, .f32⟩
  | 41 => ⟨S1x64, .f32⟩
  | 42 => ⟨S50000x64, .f32⟩
  | 43 => ⟨S50000x64, .f32⟩
  | 44 => ⟨S50000x1, .f32⟩
  | 45 => ⟨S50000x64, .f32⟩
  | 46 => ⟨S50000x64, .f32⟩
  | 47 => ⟨S_, .f32⟩
  | 48 => ⟨S64x64, .f32⟩
  | 49 => ⟨S50000x1, .i32⟩
  | 50 => ⟨S64x64, .f32⟩
  | 51 => ⟨S1x256, .f32⟩
  | 52 => ⟨S256, .f32⟩
  | 53 => ⟨S50000, .f32⟩
  | 54 => ⟨S50000x1, .i32⟩
  | 55 => ⟨S64, .i32⟩
  | 56 => ⟨S1x64, .i32⟩
  | 57 => ⟨S50000x64, .i32⟩
  | 58 => ⟨S50000x64, .i32⟩
  | 59 => ⟨S50000x64, .i1⟩
  | 60 => ⟨S50000x1, .f32⟩
  | 61 => ⟨S_, .f32⟩
  | 62 => ⟨S_, .f32⟩
  | 63 => ⟨S50000x64, .f32⟩
  | 64 => ⟨S50000x64, .f32⟩
  | 65 => ⟨S50000x64, .f32⟩
  | 66 => ⟨S_, .f32⟩
  | 67 => ⟨S64, .f32⟩
  | 68 => ⟨S_, .i32⟩
  | 69 => ⟨S50000, .i32⟩
  | 70 => ⟨S50000, .i1⟩
  | 71 => ⟨S_, .i32⟩
  | 72 => ⟨S50000, .i32⟩
  | 73 => ⟨S50000, .i32⟩
  | 74 => ⟨S50000, .i32⟩
  | 75 => ⟨S50000x1, .i32⟩
  | 76 => ⟨S50000, .f32⟩
  | 77 => ⟨S50000, .f32⟩
  | 78 => ⟨S50000, .f32⟩
  | 79 => ⟨S_, .f32⟩
  | 80 => ⟨S64, .f32⟩
  | 81 => ⟨S50000x1, .i32⟩
  | 82 => ⟨S64, .f32⟩
  | 83 => ⟨S_, .i32⟩
  | 84 => ⟨S50000, .i32⟩
  | 85 => ⟨S50000, .i1⟩
  | 86 => ⟨S_, .i32⟩
  | 87 => ⟨S50000, .i32⟩
  | 88 => ⟨S50000, .i32⟩
  | 89 => ⟨S50000, .i32⟩
  | 90 => ⟨S50000x1, .i32⟩
  | 91 => ⟨S50000, .f32⟩
  | 92 => ⟨S50000, .f32⟩
  | 93 => ⟨S1x64x256, .f32⟩
  | 94 => ⟨S64x256, .f32⟩
  | 95 => ⟨S256x64, .f32⟩
  | 96 => ⟨S50000x64, .f32⟩
  | 97 => ⟨S1x64, .f32⟩
  | 98 => ⟨S64, .f32⟩
  | 99 => ⟨S1x64, .f32⟩
  | 100 => ⟨S50000x64, .f32⟩
  | 101 => ⟨S50000x64, .f32⟩
  | 102 => ⟨S50000x1, .f32⟩
  | 103 => ⟨S50000x64, .f32⟩
  | 104 => ⟨S50000x64, .f32⟩
  | 105 => ⟨S_, .f32⟩
  | 106 => ⟨S64x64, .f32⟩
  | 107 => ⟨S50000x1, .i32⟩
  | 108 => ⟨S64x64, .f32⟩
  | 109 => ⟨S64x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_c_8 : Ref sig .tc := ⟨.hbm, 80, rfl⟩
abbrev main_v59 : Ref sig .tc := ⟨.hbm, 81, rfl⟩
abbrev main_v60 : Ref sig .tc := ⟨.hbm, 82, rfl⟩
abbrev main_c_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_11 : Ref sig .tc := ⟨.hbm, 95, rfl⟩
abbrev main_v71 : Ref sig .tc := ⟨.hbm, 96, rfl⟩
abbrev main_v72 : Ref sig .tc := ⟨.hbm, 97, rfl⟩
abbrev main_c_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_13 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_14 : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_v104 : Ref sig .tc := ⟨.hbm, 135, rfl⟩
abbrev main_cst_15 : Ref sig .tc := ⟨.hbm, 136, rfl⟩
abbrev main_v105 : Ref sig .tc := ⟨.hbm, 137, rfl⟩
abbrev main_c_16 : Ref sig .tc := ⟨.hbm, 138, rfl⟩
abbrev main_v106 : Ref sig .tc := ⟨.hbm, 139, rfl⟩
abbrev main_v107 : Ref sig .tc := ⟨.hbm, 140, rfl⟩
abbrev main_c_17 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_18 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_c_19 : Ref sig .tc := ⟨.hbm, 153, rfl⟩
abbrev main_v118 : Ref sig .tc := ⟨.hbm, 154, rfl⟩
abbrev main_v119 : Ref sig .tc := ⟨.hbm, 155, rfl⟩
abbrev main_c_20 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_21 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_22 : Ref sig .tc := ⟨.hbm, 189, rfl⟩
abbrev main_call3_v0 : Ref sig .tc := ⟨.hbm, 190, rfl⟩
abbrev main_call3_v1 : Ref sig .tc := ⟨.hbm, 191, rfl⟩
abbrev main_call3_v2 : Ref sig .tc := ⟨.hbm, 192, rfl⟩
abbrev main_v151 : Ref sig .tc := ⟨.hbm, 193, rfl⟩
abbrev main_cst_23 : Ref sig .tc := ⟨.hbm, 194, rfl⟩
abbrev main_v152 : Ref sig .tc := ⟨.hbm, 195, rfl⟩
abbrev main_c_24 : Ref sig .tc := ⟨.hbm, 196, rfl⟩
abbrev main_v153 : Ref sig .tc := ⟨.hbm, 197, rfl⟩
abbrev main_v154 : Ref sig .tc := ⟨.hbm, 198, rfl⟩
abbrev main_c_25 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_26 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_c_27 : Ref sig .tc := ⟨.hbm, 211, rfl⟩
abbrev main_v165 : Ref sig .tc := ⟨.hbm, 212, rfl⟩
abbrev main_v166 : Ref sig .tc := ⟨.hbm, 213, rfl⟩
abbrev main_c_28 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_cst_29 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩

abbrev nD : Nat := 1
abbrev τ : Topo := Topo.v7x

variable {F : FTy → Type} [FloatOps F]
-- ==== Proof.KernelIdeal.BodyState.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Tactic
public import Idealize.ShloMosaic.Lib.Ring
public import Idealize.ShloMosaic.Lib.WritesUnit
public import Idealize.ShloMosaic.Lib.VecWindow
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The condition of the initialising region: the grid coordinate is zero. -/
abbrev isFirst (i : grid0.Coords) : Prop := (Scalar.cmpi .ne (Scalar.extui (Scalar.cmpi .eq (BitVec.ofNat 32 (i 0).val) 0#32)) 0#32) = 1#1

/-- A position's slot is one of two. -/
theorem slot_lt (n : ℕ) : n % 2 < 2 := Nat.mod_lt _ (by decide)

/-- Each slot lies inside the buffer of masked exponentials. -/
theorem inb_e (p : ℕ) (hp : p < 2) (a : Fin 3) : (![p, 0, 0] : Fin 3 → ℕ) a + S1x256x5000.size a ≤ S2x256x5000.size a := by
  revert a; rw [Fin.forall_fin_succ, Fin.forall_fin_two]
  exact ⟨show p + 1 ≤ 2 by omega, show 0 + 256 ≤ 256 by omega, show 0 + 5000 ≤ 5000 by omega⟩

/-- Each slot lies inside the buffer of row blocks. -/
theorem inb_x (p : ℕ) (hp : p < 2) (a : Fin 3) : (![p, 0, 0] : Fin 3 → ℕ) a + S1x5000x256.size a ≤ S2x5000x256.size a := by
  revert a; rw [Fin.forall_fin_succ, Fin.forall_fin_two]
  exact ⟨show p + 1 ≤ 2 by omega, show 0 + 5000 ≤ 5000 by omega, show 0 + 256 ≤ 256 by omega⟩

/-- Slot `p` of the buffer of masked exponentials. -/
def eSlot (p : ℕ) (hp : p < 2) (f : Vec F S2x256x5000 .bf16) : Vec F S1x256x5000 .bf16 :=
  View.ld f (Rect.unit (s := S2x256x5000) ![p, 0, 0] S1x256x5000.size (inb_e p hp))

/-- Slot `p` of the buffer of row blocks. -/
def xSlot (p : ℕ) (hp : p < 2) (f : Vec F S2x5000x256 .bf16) : Vec F S1x5000x256 .bf16 :=
  View.ld f (Rect.unit (s := S2x5000x256) ![p, 0, 0] S1x5000x256.size (inb_x p hp))

/-- The per-head maximum over the first block. -/
def mInit (x0 : Vec F S5000x256 .f32) (x2 : Vec F S4x256 .f32) : Vec F S4x1 .f32 := k0_pay8 x0 x2

/-- The denominators after one more block. -/
def dNext (x0 : Vec F S5000x256 .f32) (x1 : Vec F S1x1x5000 .i16) (x2 : Vec F S4x256 .f32) (s0 : Vec F S4x1 .f32) (s1 : Vec F S64x4 .f32) : Vec F S64x4 .f32 :=
  k0_pay12 x0 x1 x2 s0 s1

/-- The masked exponentials of one block, the four heads stacked. -/
def eNew (x0 : Vec F S5000x256 .f32) (x1 : Vec F S1x1x5000 .i16) (x2 : Vec F S4x256 .f32) (s0 : Vec F S4x1 .f32) : Vec F S1x256x5000 .bf16 :=
  k0_pay1 (k0_pay6 x1) (k0_pay11 x0 x2 s0) (k0_pay13 x0 x1 x2 s0)

/-- A store into slot `p` is what a later read of that slot returns. -/
theorem eSlot_writes {κ : Kind} {sp : Space} (v : View sig κ sp S2x256x5000 .bf16) (f : v.ty.Contents (Elt F)) (p : ℕ) (hp : p < 2)
    {off : Fin 3 → ℕ} (inb : ∀ a, off a + S1x256x5000.size a ≤ S2x256x5000.size a) (w : Vec F S1x256x5000 .bf16)
    (L : List (View.Piece (Elt F) S2x256x5000 .bf16)) (h : off = ![p, 0, 0]) :
    eSlot p hp (v.read (Elt F) (v.writes (Elt F) f (⟨Rect.unit (s := S2x256x5000) off S1x256x5000.size inb, w⟩ :: L))) = w := by
  funext y
  exact View.read_writes_cons_unit_of_mem v f inb w L _ y h fun a => by
    show (![p, 0, 0] : Fin 3 → ℕ) a + 1 * (y a).val = _
    rw [Nat.one_mul]

/-- A store into slot `p` is what a later read of that slot returns. -/
theorem xSlot_writes {κ : Kind} {sp : Space} (v : View sig κ sp S2x5000x256 .bf16) (f : v.ty.Contents (Elt F)) (p : ℕ) (hp : p < 2)
    {off : Fin 3 → ℕ} (inb : ∀ a, off a + S1x5000x256.size a ≤ S2x5000x256.size a) (w : Vec F S1x5000x256 .bf16)
    (L : List (View.Piece (Elt F) S2x5000x256 .bf16)) (h : off = ![p, 0, 0]) :
    xSlot p hp (v.read (Elt F) (v.writes (Elt F) f (⟨Rect.unit (s := S2x5000x256) off S1x5000x256.size inb, w⟩ :: L))) = w := by
  funext y
  exact View.read_writes_cons_unit_of_mem v f inb w L _ y h fun a => by
    show (![p, 0, 0] : Fin 3 → ℕ) a + 1 * (y a).val = _
    rw [Nat.one_mul]

/-- A load of slot `p` reads that slot of the contents. -/
theorem eSlot_load {κ : Kind} {sp : Space} (v : View sig κ sp S2x256x5000 .bf16) (f : v.ty.Contents (Elt F)) (p : ℕ) (hp : p < 2)
    {off : Fin 3 → ℕ} (inb : ∀ a, off a + S1x256x5000.size a ≤ S2x256x5000.size a) (h : off = ![p, 0, 0]) :
    v.readAt (Elt F) (Rect.unit (s := S2x256x5000) off S1x256x5000.size inb).toLoadRect f = eSlot p hp (v.read (Elt F) f) := by
  subst h; rfl

/-- A load of slot `p` reads that slot of the contents. -/
theorem xSlot_load {κ : Kind} {sp : Space} (v : View sig κ sp S2x5000x256 .bf16) (f : v.ty.Contents (Elt F)) (p : ℕ) (hp : p < 2)
    {off : Fin 3 → ℕ} (inb : ∀ a, off a + S1x5000x256.size a ≤ S2x5000x256.size a) (h : off = ![p, 0, 0]) :
    v.readAt (Elt F) (Rect.unit (s := S2x5000x256) off S1x5000x256.size inb).toLoadRect f = xSlot p hp (v.read (Elt F) f) := by
  subst h; rfl

/-- A store into one slot leaves the other. -/
theorem eSlot_other {κ : Kind} {sp : Space} (v : View sig κ sp S2x256x5000 .bf16) (f : v.ty.Contents (Elt F)) (p q : ℕ) (hp : p < 2) (hpq : p ≠ q)
    {off : Fin 3 → ℕ} (inb : ∀ a, off a + S1x256x5000.size a ≤ S2x256x5000.size a) (w : Vec F S1x256x5000 .bf16)
    (h : off = ![q, 0, 0]) :
    eSlot p hp (v.read (Elt F) (v.writes (Elt F) f [⟨Rect.unit (s := S2x256x5000) off S1x256x5000.size inb, w⟩])) = eSlot p hp (v.read (Elt F) f) := by
  funext y
  refine View.read_writes_cons_unit_of_not_mem v f inb w [] _ h 0 ?_
  show p + 1 * (y 0).val < q ∨ q + 1 ≤ p + 1 * (y 0).val
  have : (y 0).val < 1 := (y 0).isLt
  omega

/-- A store into one slot leaves the other. -/
theorem xSlot_other {κ : Kind} {sp : Space} (v : View sig κ sp S2x5000x256 .bf16) (f : v.ty.Contents (Elt F)) (p q : ℕ) (hp : p < 2) (hpq : p ≠ q)
    {off : Fin 3 → ℕ} (inb : ∀ a, off a + S1x5000x256.size a ≤ S2x5000x256.size a) (w : Vec F S1x5000x256 .bf16)
    (h : off = ![q, 0, 0]) :
    xSlot p hp (v.read (Elt F) (v.writes (Elt F) f [⟨Rect.unit (s := S2x5000x256) off S1x5000x256.size inb, w⟩])) = xSlot p hp (v.read (Elt F) f) := by
  funext y
  refine View.read_writes_cons_unit_of_not_mem v f inb w [] _ h 0 ?_
  show p + 1 * (y 0).val < q ∨ q + 1 ≤ p + 1 * (y 0).val
  have : (y 0).val < 1 := (y 0).isLt
  omega

/-- The result from the weights, the denominators and the pooled sums: four column blocks, one per head. -/
def outC (x3 : Vec F S4x64x256 .f32) (x4 : Vec F S4x64 .f32) (s1 : Vec F S64x4 .f32) (s2 : Vec F S256x256 .f32) : Vec F S64x256 .f32 :=
  View.canon
    [⟨Rect.unit (s := S64x256) ![0, 192] S64x64.size inb_S64x256_S64x64_0_192,
        k0_pay3 (View.ld s1 (Rect.unit (s := S64x4) ![0, 3] S64x1.size inb_S64x4_S64x1_0_3))
          (View.ld s2 (Rect.unit (s := S256x256) ![192, 0] S64x256.size inb_S256x256_S64x256_192_0))
          (View.ld x3 (Rect.unit (s := S4x64x256) ![3, 0, 0] S1x64x256.size inb_S4x64x256_S1x64x256_3_0_0))
          (View.ld x4 (Rect.unit (s := S4x64) ![3, 0] S1x64.size inb_S4x64_S1x64_3_0))⟩,
      ⟨Rect.unit (s := S64x256) ![0, 128] S64x64.size inb_S64x256_S64x64_0_128,
        k0_pay18 (View.ld s1 (Rect.unit (s := S64x4) ![0, 2] S64x1.size inb_S64x4_S64x1_0_2))
          (View.ld s2 (Rect.unit (s := S256x256) ![128, 0] S64x256.size inb_S256x256_S64x256_128_0))
          (View.ld x3 (Rect.unit (s := S4x64x256) ![2, 0, 0] S1x64x256.size inb_S4x64x256_S1x64x256_2_0_0))
          (View.ld x4 (Rect.unit (s := S4x64) ![2, 0] S1x64.size inb_S4x64_S1x64_2_0))⟩,
      ⟨Rect.unit (s := S64x256) ![0, 64] S64x64.size inb_S64x256_S64x64_0_64,
        k0_pay17 (View.ld s1 (Rect.unit (s := S64x4) ![0, 1] S64x1.size inb_S64x4_S64x1_0_1))
          (k0_pay15 (View.ld s1 (Rect.unit (s := S64x4) ![0, 1] S64x1.size inb_S64x4_S64x1_0_1))
            (View.ld s2 (Rect.unit (s := S256x256) ![64, 0] S64x256.size inb_S256x256_S64x256_64_0)))
          (k0_pay16 (View.ld x3 (Rect.unit (s := S4x64x256) ![1, 0, 0] S1x64x256.size inb_S4x64x256_S1x64x256_1_0_0)))
          (constant S64x64 .f32 0x00000000#32)
          (View.ld x4 (Rect.unit (s := S4x64) ![1, 0] S1x64.size inb_S4x64_S1x64_1_0))⟩,
      ⟨Rect.unit (s := S64x256) ![0, 0] S64x64.size inb_S64x256_S64x64_0_0,
        k0_pay14 (View.ld s1 (Rect.unit (s := S64x4) ![0, 0] S64x1.size inb_S64x4_S64x1_0_0))
          (View.ld s2 (Rect.unit (s := S256x256) ![0, 0] S64x256.size inb_S256x256_S64x256_0_0))
          (View.ld x3 (Rect.unit (s := S4x64x256) ![0, 0, 0] S1x64x256.size inb_S4x64x256_S1x64x256_0_0_0))
          (View.ld x4 (Rect.unit (s := S4x64) ![0, 0] S1x64.size inb_S4x64_S1x64_0_0))⟩]

end Cert.KernelIdeal.Hand

end
-- ==== Proof.KernelIdeal.BodyFirst.lean ====
module

public import proofs.«01_k».proof.Proof.KernelIdeal.BodyState

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 1600000 in
/-- One run of the body at the first grid point: the running maximum, the denominators and the pooled sums are set up, and the block's masked exponentials and rows go to the point's slots. -/
theorem bodyFirst (c : Dev nD) (i : grid0.Coords) (arg1 : Memref sig .tc .vmem S5000x256 .f32) (harg1 : arg1.IsWhole) (arg2 : Memref sig .tc .vmem S1x1x5000 .i16) (harg2 : arg2.IsWhole) (arg3 : Memref sig .tc .vmem S4x256 .f32) (harg3 : arg3.IsWhole) (arg4 : Memref sig .tc .vmem S4x64x256 .f32) (harg4 : arg4.IsWhole) (arg5 : Memref sig .tc .vmem S4x64 .f32) (harg5 : arg5.IsWhole) (arg6 : Memref sig .tc .vmem S64x256 .f32) (harg6 : arg6.IsWhole) (arg7 : Memref sig .tc .vmem S4x1 .f32) (harg7 : arg7.IsWhole) (arg8 : Memref sig .tc .vmem S64x4 .f32) (harg8 : arg8.IsWhole) (arg9 : Memref sig .tc .vmem S256x256 .f32) (harg9 : arg9.IsWhole) (arg10 : Memref sig .tc .vmem S2x256x5000 .bf16) (harg10 : arg10.IsWhole) (arg11 : Memref sig .tc .vmem S2x5000x256 .bf16) (harg11 : arg11.IsWhole)
    (h1 : k0_cond1 i = 1#1) (h2 : isFirst i) (h3 : ¬ k0_cond3 i = 1#1) (h4 : ¬ k0_cond4 i = 1#1)
    (x0 : Vec F S5000x256 .f32) (x1 : Vec F S1x1x5000 .i16) (x2 : Vec F S4x256 .f32) (x3 : Vec F S4x64x256 .f32) (x4 : Vec F S4x64 .f32) (xo : Vec F S64x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo ∗ owns (c : Thread nD τ) arg7 fullShare (mInit x0 x2) ∗ owns (c : Thread nD τ) arg8 fullShare (dNext x0 x1 x2 (mInit x0 x2) k0_pay9) ∗ owns (c : Thread nD τ) arg9 fullShare k0_pay10
          ∗ (∃ g, ⌜eSlot ((i 0).val % 2) (slot_lt _) g = eNew x0 x1 x2 (mInit x0 x2)⌝ ∗ owns (c : Thread nD τ) arg10 fullShare g) ∗ (∃ g, ⌜xSlot ((i 0).val % 2) (slot_lt _) g = k0_pay5 x0⌝ ∗ owns (c : Thread nD τ) arg11 fullShare g)) -∗ K ⟨⟩))
    ⊢ wp frame (wpE (defs₀ (F := F)) Variants.none c none) E (cc0__agg_kernel i arg1 harg1 arg2 harg2 arg3 harg3 arg4 harg4 arg5 harg5 arg6 harg6 arg7 harg7 arg8 harg8 arg9 harg9 arg10 harg10 arg11 harg11) K := by
  simp only [cc0__agg_kernel_eq_skeleton]; unfold cc0__agg_kernel_skel
  simp only [k0_part3_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  unfold bodyFirst.sl.r bodyFirst.sl.r_1 bodyFirst.sl.r_2 bodyFirst.sl.v28 bodyFirst.sl.v37 bodyFirst.sl.H7_1 bodyFirst.sl.H8_1
  have e0 := (View.readAt_full arg1.view (harg1.unread x0) inb_S5000x256_S5000x256_0_0).trans (harg1.read_unread x0)
  have e1 := (View.readAt_full arg2.view (harg2.unread x1) inb_S1x1x5000_S1x1x5000_0_0_0).trans (harg2.read_unread x1)
  have e2 := (View.readAt_full arg3.view (harg3.unread x2) inb_S4x256_S4x256_0_0).trans (harg3.read_unread x2)
  have em := congr (congrArg (k0_pay8 (F := F)) e0) e2
  have e7 := (show _ = (_ : Vec F S4x1 .f32) from View.readCov_full arg7.view inb_S4x1_S4x1_0_0 inb_S4x1_S4x1_0_0 (k0_pay8 (View.readAt (Elt F) arg1.view (Rect.unit ![0, 0] S5000x256.size inb_S5000x256_S5000x256_0_0).toLoadRect (harg1.unread x0)) (View.readAt (Elt F) arg3.view (Rect.unit ![0, 0] S4x256.size inb_S4x256_S4x256_0_0).toLoadRect (harg3.unread x2))) []).trans em
  have e8 := View.readCov_full (Val := Elt F) arg8.view inb_S64x4_S64x4_0_0 inb_S64x4_S64x4_0_0 (k0_pay9 (F := F)) []
  have e12 := congr (congr (congr (congr (congrArg (k0_pay12 (F := F)) e0) e1) e2) e7) e8
  have e11 := congr (congr (congrArg (k0_pay11 (F := F)) e0) e2) e7
  have e13 := congr (congr (congr (congrArg (k0_pay13 (F := F)) e0) e1) e2) e7
  have ee := congr (congr (congrArg (k0_pay1 (F := F)) (congrArg (k0_pay6 (F := F)) e1)) e11) e13
  isplitl [H7]
  · iexists _; isplitr
    swap; · iexact H7
    ipureintro; exact (View.read_writes_full _ _ _ _ _).trans em
  isplitl [H8]
  · iexists _; isplitr
    swap; · iexact H8
    ipureintro; exact (View.read_writes_full _ _ _ _ _).trans e12
  isplitl [H9]
  · iexists _; isplitr
    swap; · iexact H9
    ipureintro; exact View.read_writes_full _ _ _ _ _
  isplitl [H10]
  · iexists _; isplitr
    swap
    · iexists _; isplitr
      swap; · iexact H10
      ipureintro; exact rfl
    ipureintro; exact (eSlot_writes _ _ _ _ _ _ _ (k0_off2_eq i)).trans ee
  iexists _; isplitr
  swap
  · iexists _; isplitr
    swap; · iexact H11
    ipureintro; exact rfl
  ipureintro; exact (xSlot_writes _ _ _ _ _ _ _ (k0_off1_eq i)).trans (congrArg (k0_pay5 (F := F)) e0)

end Cert.KernelIdeal.Hand

end
-- ==== Proof.KernelIdeal.BodyMiddle.lean ====
module

public import proofs.«01_k».proof.Proof.KernelIdeal.BodyState

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 1600000 in
/-- One run of the body at a point that is neither the first nor the last: the denominators take the block in, the slots of the point before are pooled, and this block goes to the point's own slots. -/
theorem bodyMiddle (c : Dev nD) (i : grid0.Coords) (arg1 : Memref sig .tc .vmem S5000x256 .f32) (harg1 : arg1.IsWhole) (arg2 : Memref sig .tc .vmem S1x1x5000 .i16) (harg2 : arg2.IsWhole) (arg3 : Memref sig .tc .vmem S4x256 .f32) (harg3 : arg3.IsWhole) (arg4 : Memref sig .tc .vmem S4x64x256 .f32) (harg4 : arg4.IsWhole) (arg5 : Memref sig .tc .vmem S4x64 .f32) (harg5 : arg5.IsWhole) (arg6 : Memref sig .tc .vmem S64x256 .f32) (harg6 : arg6.IsWhole) (arg7 : Memref sig .tc .vmem S4x1 .f32) (harg7 : arg7.IsWhole) (arg8 : Memref sig .tc .vmem S64x4 .f32) (harg8 : arg8.IsWhole) (arg9 : Memref sig .tc .vmem S256x256 .f32) (harg9 : arg9.IsWhole) (arg10 : Memref sig .tc .vmem S2x256x5000 .bf16) (harg10 : arg10.IsWhole) (arg11 : Memref sig .tc .vmem S2x5000x256 .bf16) (harg11 : arg11.IsWhole)
    (h1 : k0_cond1 i = 1#1) (h2 : ¬ isFirst i) (h3 : k0_cond3 i = 1#1) (h4 : ¬ k0_cond4 i = 1#1)
    (x0 : Vec F S5000x256 .f32) (x1 : Vec F S1x1x5000 .i16) (x2 : Vec F S4x256 .f32) (x3 : Vec F S4x64x256 .f32) (x4 : Vec F S4x64 .f32) (xo : Vec F S64x256 .f32) (s0 : Vec F S4x1 .f32) (s1 : Vec F S64x4 .f32) (s2 : Vec F S256x256 .f32) (f10 : Vec F S2x256x5000 .bf16) (f11 : Vec F S2x5000x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo ∗ owns (c : Thread nD τ) arg7 fullShare s0 ∗ owns (c : Thread nD τ) arg8 fullShare s1 ∗ owns (c : Thread nD τ) arg9 fullShare s2 ∗ owns (c : Thread nD τ) arg10 fullShare f10 ∗ owns (c : Thread nD τ) arg11 fullShare f11
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo ∗ owns (c : Thread nD τ) arg7 fullShare s0 ∗ owns (c : Thread nD τ) arg8 fullShare (dNext x0 x1 x2 s0 s1) ∗ owns (c : Thread nD τ) arg9 fullShare (k0_pay2 s2 (eSlot (((i 0).val + 1) % 2) (slot_lt _) f10) (xSlot (((i 0).val + 1) % 2) (slot_lt _) f11))
          ∗ (∃ g, ⌜eSlot ((i 0).val % 2) (slot_lt _) g = eNew x0 x1 x2 s0⌝ ∗ owns (c : Thread nD τ) arg10 fullShare g) ∗ (∃ g, ⌜xSlot ((i 0).val % 2) (slot_lt _) g = k0_pay5 x0⌝ ∗ owns (c : Thread nD τ) arg11 fullShare g)) -∗ K ⟨⟩))
    ⊢ wp frame (wpE (defs₀ (F := F)) Variants.none c none) E (cc0__agg_kernel i arg1 harg1 arg2 harg2 arg3 harg3 arg4 harg4 arg5 harg5 arg6 harg6 arg7 harg7 arg8 harg8 arg9 harg9 arg10 harg10 arg11 harg11) K := by
  simp only [cc0__agg_kernel_eq_skeleton]; unfold cc0__agg_kernel_skel
  simp only [k0_part3_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  unfold bodyMiddle.sl.v14 bodyMiddle.sl.v17 bodyMiddle.sl.H10_1 bodyMiddle.sl.H11_1
  try unfold bodyMiddle.sl.r
  try unfold bodyMiddle.sl.r_1
  try unfold bodyMiddle.sl.r_2
  have e0 := (View.readAt_full arg1.view (harg1.unread x0) inb_S5000x256_S5000x256_0_0).trans (harg1.read_unread x0)
  have e1 := (View.readAt_full arg2.view (harg2.unread x1) inb_S1x1x5000_S1x1x5000_0_0_0).trans (harg2.read_unread x1)
  have e2 := (View.readAt_full arg3.view (harg3.unread x2) inb_S4x256_S4x256_0_0).trans (harg3.read_unread x2)
  have e7 := (View.readAt_full arg7.view (harg7.unread s0) inb_S4x1_S4x1_0_0).trans (harg7.read_unread s0)
  have e8 := (View.readAt_full arg8.view (harg8.unread s1) inb_S64x4_S64x4_0_0).trans (harg8.read_unread s1)
  have e12 := congr (congr (congr (congr (congrArg (k0_pay12 (F := F)) e0) e1) e2) e7) e8
  have e11 := congr (congr (congrArg (k0_pay11 (F := F)) e0) e2) e7
  have e13 := congr (congr (congr (congrArg (k0_pay13 (F := F)) e0) e1) e2) e7
  have ee := congr (congr (congrArg (k0_pay1 (F := F)) (congrArg (k0_pay6 (F := F)) e1)) e11) e13
  isplitl [H8]
  · iexists _; isplitr
    swap; · iexact H8
    ipureintro; exact (View.read_writes_full _ _ _ _ _).trans e12
  isplitl [H9]
  · iexists _; isplitr
    swap; · iexact H9
    ipureintro
    refine (View.read_writes_full _ _ _ _ _).trans ?_
    have p1 := (View.readAt_full arg9.view (harg9.unread s2) inb_S256x256_S256x256_0_0).trans (harg9.read_unread s2)
    have p2 := fun w => (eSlot_load arg10.view (arg10.view.writes (Elt F) (harg10.unread f10) [⟨Rect.unit (s := S2x256x5000) (k0_off2 i) S1x256x5000.size (k0_off2_inb i h1), w⟩]) (((i 0).val + 1) % 2) (slot_lt _) (k0_off3_inb i h3) (k0_off3_eq i)).trans
      ((eSlot_other arg10.view (harg10.unread f10) (((i 0).val + 1) % 2) ((i 0).val % 2) (slot_lt _) (by omega) (k0_off2_inb i h1) w (k0_off2_eq i)).trans
        (congrArg (eSlot (((i 0).val + 1) % 2) (slot_lt _)) (harg10.read_unread f10)))
    have p3 := fun w => (xSlot_load arg11.view (arg11.view.writes (Elt F) (harg11.unread f11) [⟨Rect.unit (s := S2x5000x256) (k0_off1 i) S1x5000x256.size (k0_off1_inb i h1), w⟩]) (((i 0).val + 1) % 2) (slot_lt _) (k0_off4_inb i h3) (k0_off4_eq i)).trans
      ((xSlot_other arg11.view (harg11.unread f11) (((i 0).val + 1) % 2) ((i 0).val % 2) (slot_lt _) (by omega) (k0_off1_inb i h1) w (k0_off1_eq i)).trans
        (congrArg (xSlot (((i 0).val + 1) % 2) (slot_lt _)) (harg11.read_unread f11)))
    exact congr (congr (congrArg (k0_pay2 (F := F)) p1) (p2 _)) (p3 _)
  isplitl [H10]
  · iexists _; isplitr
    swap
    · iexists _; isplitr
      swap; · iexact H10
      ipureintro; exact rfl
    ipureintro; exact (eSlot_writes _ _ _ _ _ _ _ (k0_off2_eq i)).trans ee
  iexists _; isplitr
  swap
  · iexists _; isplitr
    swap; · iexact H11
    ipureintro; exact rfl
  ipureintro; exact (xSlot_writes _ _ _ _ _ _ _ (k0_off1_eq i)).trans (congrArg (k0_pay5 (F := F)) e0)

end Cert.KernelIdeal.Hand

end
-- ==== Proof.KernelIdeal.BodyLast.lean ====
module

public import proofs.«01_k».proof.Proof.KernelIdeal.BodyState

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 1600000 in
/-- One run of the body at the last point: the last slots are pooled and the result is stored, a column block per head. -/
theorem bodyLast (c : Dev nD) (i : grid0.Coords) (arg1 : Memref sig .tc .vmem S5000x256 .f32) (harg1 : arg1.IsWhole) (arg2 : Memref sig .tc .vmem S1x1x5000 .i16) (harg2 : arg2.IsWhole) (arg3 : Memref sig .tc .vmem S4x256 .f32) (harg3 : arg3.IsWhole) (arg4 : Memref sig .tc .vmem S4x64x256 .f32) (harg4 : arg4.IsWhole) (arg5 : Memref sig .tc .vmem S4x64 .f32) (harg5 : arg5.IsWhole) (arg6 : Memref sig .tc .vmem S64x256 .f32) (harg6 : arg6.IsWhole) (arg7 : Memref sig .tc .vmem S4x1 .f32) (harg7 : arg7.IsWhole) (arg8 : Memref sig .tc .vmem S64x4 .f32) (harg8 : arg8.IsWhole) (arg9 : Memref sig .tc .vmem S256x256 .f32) (harg9 : arg9.IsWhole) (arg10 : Memref sig .tc .vmem S2x256x5000 .bf16) (harg10 : arg10.IsWhole) (arg11 : Memref sig .tc .vmem S2x5000x256 .bf16) (harg11 : arg11.IsWhole)
    (h1 : ¬ k0_cond1 i = 1#1) (h3 : k0_cond3 i = 1#1) (h4 : k0_cond4 i = 1#1)
    (x0 : Vec F S5000x256 .f32) (x1 : Vec F S1x1x5000 .i16) (x2 : Vec F S4x256 .f32) (x3 : Vec F S4x64x256 .f32) (x4 : Vec F S4x64 .f32) (s0 : Vec F S4x1 .f32) (s1 : Vec F S64x4 .f32) (s2 : Vec F S256x256 .f32) (f10 : Vec F S2x256x5000 .bf16) (f11 : Vec F S2x5000x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare s0 ∗ owns (c : Thread nD τ) arg8 fullShare s1 ∗ owns (c : Thread nD τ) arg9 fullShare s2 ∗ owns (c : Thread nD τ) arg10 fullShare f10 ∗ owns (c : Thread nD τ) arg11 fullShare f11
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outC x3 x4 s1 (k0_pay2 s2 (eSlot (((i 0).val + 1) % 2) (slot_lt _) f10) (xSlot (((i 0).val + 1) % 2) (slot_lt _) f11))) ∗ owns (c : Thread nD τ) arg7 fullShare s0 ∗ owns (c : Thread nD τ) arg8 fullShare s1 ∗ owns (c : Thread nD τ) arg9 fullShare (k0_pay2 s2 (eSlot (((i 0).val + 1) % 2) (slot_lt _) f10) (xSlot (((i 0).val + 1) % 2) (slot_lt _) f11))
          ∗ owns (c : Thread nD τ) arg10 fullShare f10 ∗ owns (c : Thread nD τ) arg11 fullShare f11) -∗ K ⟨⟩))
    ⊢ wp frame (wpE (defs₀ (F := F)) Variants.none c none) E (cc0__agg_kernel i arg1 harg1 arg2 harg2 arg3 harg3 arg4 harg4 arg5 harg5 arg6 harg6 arg7 harg7 arg8 harg8 arg9 harg9 arg10 harg10 arg11 harg11) K := by
  simp only [cc0__agg_kernel_eq_skeleton]; unfold cc0__agg_kernel_skel
  simp only [k0_part3_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10; obtain rfl := harg11.eq_unread hf11
  sl_exec (disch := first | sl_exact h1 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  have e1 := (View.readAt_full arg9.view (harg9.unread s2) inb_S256x256_S256x256_0_0).trans (harg9.read_unread s2)
  have e2 := (eSlot_load arg10.view (harg10.unread f10) (((i 0).val + 1) % 2) (slot_lt _) (k0_off3_inb i h3) (k0_off3_eq i)).trans
    (congrArg (eSlot (((i 0).val + 1) % 2) (slot_lt _)) (harg10.read_unread f10))
  have e3 := (xSlot_load arg11.view (harg11.unread f11) (((i 0).val + 1) % 2) (slot_lt _) (k0_off4_inb i h3) (k0_off4_eq i)).trans
    (congrArg (xSlot (((i 0).val + 1) % 2) (slot_lt _)) (harg11.read_unread f11))
  have e9 := congr (congr (congrArg (k0_pay2 (F := F)) e1) e2) e3
  have e7 := (View.readAt_full arg7.view (harg7.unread s0) inb_S4x1_S4x1_0_0).trans (harg7.read_unread s0)
  isplitl [H6]
  · iexists _; isplitr
    swap; · iexact H6
    ipureintro
    unfold bodyLast.sl.v83 bodyLast.sl.v61 bodyLast.sl.r bodyLast.sl.r_1 bodyLast.sl.r_2 bodyLast.sl.v17 bodyLast.sl.cst_27
    try unfold bodyLast.sl.v39
    unfold bodyLast.sl.H9_1
    refine (View.read_writes_eq_canon (Val := Elt F) arg6.view _ _ (View.cover_of_tiledL _ S64x64.size (by sl_kernel_rfl))).trans ?_
    have ep := (show _ = (_ : Vec F S256x256 .f32) from View.read_writes_full (Val := Elt F) arg9.view arg9.view.junk inb_S256x256_S256x256_0_0 (k0_pay2 (View.readAt (Elt F) arg9.view (Rect.unit ![0, 0] S256x256.size inb_S256x256_S256x256_0_0).toLoadRect (harg9.unread s2)) (View.readAt (Elt F) arg10.view (Rect.unit (s := S2x256x5000) (k0_off3 i) S1x256x5000.size (k0_off3_inb i h3)).toLoadRect (harg10.unread f10)) (View.readAt (Elt F) arg11.view (Rect.unit (s := S2x5000x256) (k0_off4 i) S1x5000x256.size (k0_off4_inb i h3)).toLoadRect (harg11.unread f11))) []).trans e9
    have eo := congr (congr (congr (congrArg (outC (F := F)) (harg4.read_unread x3)) (harg5.read_unread x4)) (harg8.read_unread s1)) ep
    exact eo
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    unfold bodyLast.sl.H9_1
    exact (View.read_writes_full _ _ _ _ _).trans e9
  isplitl [H10]
  · iexists _; isplitr; · ipureintro; exact harg10.read_unread _
    iexact H10
  iexists _; isplitr; · ipureintro; exact harg11.read_unread _
  iexact H11

end Cert.KernelIdeal.Hand

end
-- ==== Proof.KernelIdeal.Frame.lean ====
module

public import proofs.«01_k».proof.Proof.KernelIdeal.BodyFirst
public import proofs.«01_k».proof.Proof.KernelIdeal.BodyMiddle
public import proofs.«01_k».proof.Proof.KernelIdeal.BodyLast
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The conditions over the points -/

/-- The grid coordinate of a point is its position. -/
theorem coord_val (t : Fin cfg0.N) : (grid0.coords t 0).val = t.val := by
  have ht : t.val < 11 := Nat.lt_of_lt_of_eq t.isLt N_0
  have e0 : (grid0.coords t 0).val = t.val / 1 % 11 := Pipeline.Grid.coords_val t 0 (by decide) rfl
  omega

/-- A block is built at every point but the last. -/
theorem cond1_iff (t : Fin cfg0.N) : k0_cond1 (grid0.coords t) = 1#1 ↔ t.val < 10 := by
  have ht : t.val < 11 := Nat.lt_of_lt_of_eq t.isLt N_0
  simp only [k0_cond1, coord_val]
  word_cmp

/-- The scratch is initialised at the first point. -/
theorem isFirst_iff (t : Fin cfg0.N) : isFirst (grid0.coords t) ↔ t.val = 0 := by
  have ht : t.val < 11 := Nat.lt_of_lt_of_eq t.isLt N_0
  simp only [isFirst, coord_val]
  word_cmp

/-- A block is pooled at every point but the first. -/
theorem cond3_iff (t : Fin cfg0.N) : k0_cond3 (grid0.coords t) = 1#1 ↔ 0 < t.val := by
  have ht : t.val < 11 := Nat.lt_of_lt_of_eq t.isLt N_0
  simp only [k0_cond3, coord_val]
  word_cmp

/-- The result is stored at the last point. -/
theorem cond4_iff (t : Fin cfg0.N) : k0_cond4 (grid0.coords t) = 1#1 ↔ t.val = 10 := by
  have ht : t.val < 11 := Nat.lt_of_lt_of_eq t.isLt N_0
  simp only [k0_cond4, coord_val]
  word_cmp

/-- Input window 0 is used at every point. -/
theorem live_0 (t : Fin cfg0.N) : cfg0.idle 0 (grid0.coords t) = false := rfl
/-- Input window 1 is used at every point. -/
theorem live_1 (t : Fin cfg0.N) : cfg0.idle 1 (grid0.coords t) = false := rfl
/-- Input window 2 is used at every point. -/
theorem live_2 (t : Fin cfg0.N) : cfg0.idle 2 (grid0.coords t) = false := rfl
/-- Input window 3 is used at every point. -/
theorem live_3 (t : Fin cfg0.N) : cfg0.idle 3 (grid0.coords t) = false := rfl
/-- Input window 4 is used at every point. -/
theorem live_4 (t : Fin cfg0.N) : cfg0.idle 4 (grid0.coords t) = false := rfl

/-- The output window is idle before the last point, -/
theorem idle_5 : ∀ t : Fin cfg0.N, ¬k0_cond4 (grid0.coords t) = 1#1 → cfg0.idle 5 (grid0.coords t) = true := by decide +kernel
/-- and is not written back there; -/
theorem noFlush_5 : ∀ t : Fin cfg0.N, ¬k0_cond4 (grid0.coords t) = 1#1 → (cfg0.win 5).flush t = false := by decide +kernel
/-- it is live at the last point. -/
theorem live_5 : ∀ t : Fin cfg0.N, k0_cond4 (grid0.coords t) = 1#1 → cfg0.idle 5 (grid0.coords t) = false := by decide +kernel

/-! ## The scratch operands -/

/-- The scratch of per-head maxima. -/
abbrev scM : Memref sig .tc .vmem S4x1 .f32 := Memref.whole cc0_scratch0
/-- The scratch of denominators. -/
abbrev scD : Memref sig .tc .vmem S64x4 .f32 := Memref.whole cc0_scratch1
/-- The scratch of pooled sums. -/
abbrev scP : Memref sig .tc .vmem S256x256 .f32 := Memref.whole cc0_scratch2
/-- The scratch of masked exponentials, two slots. -/
abbrev scE : Memref sig .tc .vmem S2x256x5000 .bf16 := Memref.whole cc0_scratch3
/-- The scratch of row blocks, two slots. -/
abbrev scX : Memref sig .tc .vmem S2x5000x256 .bf16 := Memref.whole cc0_scratch4

/-- The staging buffer of window 0 at a point. -/
abbrev st0 (t : Fin cfg0.N) : Memref sig .tc .vmem S5000x256 .f32 := win0_0.stage (cfg0.slots t 0)
/-- The staging buffer of window 1 at a point. -/
abbrev st1 (t : Fin cfg0.N) : Memref sig .tc .vmem S1x1x5000 .i16 := win0_1.stage (cfg0.slots t 1)
/-- The staging buffer of window 2 at a point. -/
abbrev st2 (t : Fin cfg0.N) : Memref sig .tc .vmem S4x256 .f32 := win0_2.stage (cfg0.slots t 2)
/-- The staging buffer of window 3 at a point. -/
abbrev st3 (t : Fin cfg0.N) : Memref sig .tc .vmem S4x64x256 .f32 := win0_3.stage (cfg0.slots t 3)
/-- The staging buffer of window 4 at a point. -/
abbrev st4 (t : Fin cfg0.N) : Memref sig .tc .vmem S4x64 .f32 := win0_4.stage (cfg0.slots t 4)
/-- The staging buffer of window 5 at a point. -/
abbrev st5 (t : Fin cfg0.N) : Memref sig .tc .vmem S64x256 .f32 := win0_5.stage (cfg0.slots t 5)

/-- Before the first point the scratch operands hold anything. -/
theorem rest_eq (c : Dev nD) :
    (Pipeline.ΦA spec0 c : sProp 𝕄)
      = iprop(iprop((∃ d, owns (c : Thread nD τ) scM fullShare d) ∗ (∃ d, owns (c : Thread nD τ) scD fullShare d) ∗ (∃ d, owns (c : Thread nD τ) scP fullShare d) ∗ (∃ d, owns (c : Thread nD τ) scE fullShare d) ∗ (∃ d, owns (c : Thread nD τ) scX fullShare d)) ∗ (∃ r, prngReg c r)) := by
  unfold Pipeline.ΦA; rw [scopedRest0_eq]; simp only [scM, scD, scP, scE, scX, owns_whole]; try rfl

variable (m : (ℓ : Loc nD τ sig) → Buf (Elt F) ℓ) (ρ : Dev nD → PrngReg)

/-! ## What the scratch holds after each point -/

/-- The grid point of position `n`. -/
def pt (n : ℕ) : Fin cfg0.N := ⟨n % 11, lt_of_lt_of_eq (Nat.mod_lt n (by decide)) N_0.symm⟩

/-- A point is the point of its position. -/
theorem pt_val (t : Fin cfg0.N) : pt t.val = t :=
  Fin.ext (Nat.mod_eq_of_lt (Nat.lt_of_lt_of_eq t.isLt N_0))

/-- The per-head maximum over the first block, which every block is shifted by. -/
def mS (c : Dev nD) : Vec F S4x1 .f32 := mInit (iblk m c 0 (pt 0)) (iblk m c 2 (pt 0))

/-- The denominators after point `n`. -/
def dS (c : Dev nD) : ℕ → Vec F S64x4 .f32
  | 0 => dNext (iblk m c 0 (pt 0)) (iblk m c 1 (pt 0)) (iblk m c 2 (pt 0)) (mS m c) k0_pay9
  | n + 1 => if n + 1 < 10 then dNext (iblk m c 0 (pt (n + 1))) (iblk m c 1 (pt (n + 1))) (iblk m c 2 (pt (n + 1))) (mS m c) (dS c n) else dS c n

/-- The masked exponentials of block `n`. -/
def eS (c : Dev nD) (n : ℕ) : Vec F S1x256x5000 .bf16 := eNew (iblk m c 0 (pt n)) (iblk m c 1 (pt n)) (iblk m c 2 (pt n)) (mS m c)

/-- The rows of block `n`. -/
def xS (c : Dev nD) (n : ℕ) : Vec F S1x5000x256 .bf16 := k0_pay5 (iblk m c 0 (pt n))

/-- The pooled sums after point `n`: the blocks before `n`. -/
def pS (c : Dev nD) : ℕ → Vec F S256x256 .f32
  | 0 => k0_pay10
  | n + 1 => k0_pay2 (pS c n) (eS m c n) (xS m c n)

/-- The result the last point stores. -/
def oS (c : Dev nD) (t : Fin cfg0.N) : Vec F S64x256 .f32 := outC (iblk m c 3 t) (iblk m c 4 t) (dS m c (t.val - 1)) (pS m c t.val)

/-- The scratch after point `n`. -/
def held (c : Dev nD) (n : ℕ) : sProp 𝕄 :=
  iprop(iprop(owns (c : Thread nD τ) scM fullShare (mS m c) ∗ owns (c : Thread nD τ) scD fullShare (dS m c n) ∗ owns (c : Thread nD τ) scP fullShare (pS m c n)
    ∗ (∃ g, ⌜n < 10 → eSlot (n % 2) (slot_lt _) g = eS m c n⌝ ∗ owns (c : Thread nD τ) scE fullShare g)
    ∗ (∃ g, ⌜n < 10 → xSlot (n % 2) (slot_lt _) g = xS m c n⌝ ∗ owns (c : Thread nD τ) scX fullShare g)) ∗ (∃ r, prngReg c r))

/-- The region invariant before position `n`. -/
def PhiS (c : Dev nD) : (n : ℕ) → n ≤ cfg0.N → sProp 𝕄
  | 0, _ => Pipeline.ΦA spec0 c
  | n + 1, _ => held m c n

/-- The region invariant at the start. -/
theorem PhiS_zero (c : Dev nD) (n : ℕ) (h : n ≤ cfg0.N) (hz : n = 0) : PhiS m c n h = Pipeline.ΦA spec0 c := by
  subst hz; rfl

/-- The region invariant after a point. -/
theorem PhiS_pos (c : Dev nD) (n k : ℕ) (h : n ≤ cfg0.N) (hz : n = k + 1) : PhiS m c n h = held m c k := by
  subst hz; rfl

/-- The proof data of the pipeline: the arrays as the region finds them, each input's buffer at its block, the output's at `oS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oS m c t
  Φ t := PhiS m c t.val (Nat.le_of_lt_succ t.isLt)
  q _ := fullShare
  owed _ := 0

/-- The arrays the windows start from. -/
theorem A_eq (c : Dev nD) (w : Fin cfg0.W) : (dats m 0 c).A w = V m c (Pipeline.arrRef spec0 w) := by
  dsimp only [dats]

/-- The region invariant before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Input window 0 keeps its block. -/
theorem after_0 (c : Dev nD) (t : Fin cfg0.N) : (dats m 0 c).after 0 t = iblk m c 0 t := by dsimp only [dats]
/-- Input window 1 keeps its block. -/
theorem after_1 (c : Dev nD) (t : Fin cfg0.N) : (dats m 0 c).after 1 t = iblk m c 1 t := by dsimp only [dats]
/-- Input window 2 keeps its block. -/
theorem after_2 (c : Dev nD) (t : Fin cfg0.N) : (dats m 0 c).after 2 t = iblk m c 2 t := by dsimp only [dats]
/-- Input window 3 keeps its block. -/
theorem after_3 (c : Dev nD) (t : Fin cfg0.N) : (dats m 0 c).after 3 t = iblk m c 3 t := by dsimp only [dats]
/-- Input window 4 keeps its block. -/
theorem after_4 (c : Dev nD) (t : Fin cfg0.N) : (dats m 0 c).after 4 t = iblk m c 4 t := by dsimp only [dats]
/-- The output window holds the result of the last point. -/
theorem after_5 (c : Dev nD) (t : Fin cfg0.N) : (dats m 0 c).after 5 t = oS m c t := by dsimp only [dats]

/-- Input window 0 holds its block before a point. -/
theorem before_0 (c : Dev nD) (t : Fin cfg0.N) (d) : (dats m 0 c).before 0 t d = iblk m c 0 t :=
  before0_0_of m (dats m 0 c) (A_eq m c 0) (after_0 m c) t d
/-- Input window 1 holds its block before a point. -/
theorem before_1 (c : Dev nD) (t : Fin cfg0.N) (d) : (dats m 0 c).before 1 t d = iblk m c 1 t :=
  before0_1_of m (dats m 0 c) (A_eq m c 1) (after_1 m c) t d
/-- Input window 2 holds its block before a point. -/
theorem before_2 (c : Dev nD) (t : Fin cfg0.N) (d) : (dats m 0 c).before 2 t d = iblk m c 2 t :=
  before0_2_of m (dats m 0 c) (A_eq m c 2) (after_2 m c) t d
/-- Input window 3 holds its block before a point. -/
theorem before_3 (c : Dev nD) (t : Fin cfg0.N) (d) : (dats m 0 c).before 3 t d = iblk m c 3 t :=
  before0_3_of m (dats m 0 c) (A_eq m c 3) (after_3 m c) t d
/-- Input window 4 holds its block before a point. -/
theorem before_4 (c : Dev nD) (t : Fin cfg0.N) (d) : (dats m 0 c).before 4 t d = iblk m c 4 t :=
  before0_4_of m (dats m 0 c) (A_eq m c 4) (after_4 m c) t d

/-- Equal slots have equal contents. -/
theorem eSlot_congr (p q : ℕ) (hp : p < 2) (hq : q < 2) (h : p = q) (f : Vec F S2x256x5000 .bf16) : eSlot p hp f = eSlot q hq f := by subst h; rfl
/-- Equal slots have equal contents. -/
theorem xSlot_congr (p q : ℕ) (hp : p < 2) (hq : q < 2) (h : p = q) (f : Vec F S2x5000x256 .bf16) : xSlot p hp f = xSlot q hq f := by subst h; rfl

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point takes the invariant and the windows' blocks to the next point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = held m c t.val from rfl]
  rw [show (dats m 0 c).leavesExact 0 t = owns (c : Thread nD τ) (st0 t) fullShare ((dats m 0 c).after 0 t) from by
    unfold Dat.leavesExact; rw [live_0 t], after_0]
  rw [show (dats m 0 c).leavesExact 1 t = owns (c : Thread nD τ) (st1 t) fullShare ((dats m 0 c).after 1 t) from by
    unfold Dat.leavesExact; rw [live_1 t], after_1]
  rw [show (dats m 0 c).leavesExact 2 t = owns (c : Thread nD τ) (st2 t) fullShare ((dats m 0 c).after 2 t) from by
    unfold Dat.leavesExact; rw [live_2 t], after_2]
  rw [show (dats m 0 c).leavesExact 3 t = owns (c : Thread nD τ) (st3 t) fullShare ((dats m 0 c).after 3 t) from by
    unfold Dat.leavesExact; rw [live_3 t], after_3]
  rw [show (dats m 0 c).leavesExact 4 t = owns (c : Thread nD τ) (st4 t) fullShare ((dats m 0 c).after 4 t) from by
    unfold Dat.leavesExact; rw [live_4 t], after_4]
  have hN : t.val < 11 := lt_of_lt_of_eq t.isLt N_0
  have hcv := coord_val t
  by_cases hz : t.val = 0
  · have h4 : ¬ k0_cond4 (grid0.coords t) = 1#1 := fun h => by have := (cond4_iff t).mp h; omega
    have htp : pt 0 = t := hz ▸ pt_val t
    rw [Dat.leavesExact_idle (dats m 0 c) 5 t (idle_5 t h4) (noFlush_5 t h4)]
    rw [PhiS_castSucc m c t, PhiS_zero m c _ _ hz, rest_eq]
    unfold held
    iintro ⟨⟨⟨HM, HD, HP, HE, HX⟩, Hg⟩, Ho, ⟨%d0, H0⟩, ⟨%d1, H1⟩, ⟨%d2, H2⟩, ⟨%d3, H3⟩, ⟨%d4, H4⟩, ⟨%d5, H5⟩⟩
    iapply (bodyFirst c (grid0.coords t) _ _ _ _ _ _ _ _ _ _ _ _ _ _ _ _ _ _ _ _ _ _ ((cond1_iff t).mpr (by omega)) ((isFirst_iff t).mpr hz) (fun h => by have := (cond3_iff t).mp h; omega) h4 (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexact H5
    isplitl [HM]; · iexact HM
    isplitl [HD]; · iexact HD
    isplitl [HP]; · iexact HP
    isplitl [HE]; · iexact HE
    isplitl [HX]; · iexact HX
    have eM : mS m c = mInit (iblk m c 0 t) (iblk m c 2 t) := by unfold mS; rw [htp]
    have eD : dS m c t.val = dNext (iblk m c 0 t) (iblk m c 1 t) (iblk m c 2 t) (mInit (iblk m c 0 t) (iblk m c 2 t)) k0_pay9 := by
      rw [← eM, hz]; unfold dS; rw [htp]
    have eP : pS m c t.val = k0_pay10 := by rw [hz]; rfl
    have eE : eS m c t.val = eNew (iblk m c 0 t) (iblk m c 1 t) (iblk m c 2 t) (mInit (iblk m c 0 t) (iblk m c 2 t)) := by
      rw [← eM]; unfold eS; rw [pt_val]
    have eX : xS m c t.val = k0_pay5 (iblk m c 0 t) := by unfold xS; rw [pt_val]
    rw [eD, eP, eE, eX, eM]
    iintro ⟨H0, H1, H2, H3, H4, H5, HM, HD, HP, ⟨%g1, %hg1, HE⟩, ⟨%g2, %hg2, HX⟩⟩
    isplitl [HM HD HP HE HX Hg]
    · isplitl [HM HD HP HE HX]
      · isplitl [HM]; · iexact HM
        isplitl [HD]; · iexact HD
        isplitl [HP]; · iexact HP
        isplitl [HE]
        · iexists g1; isplitr
          · ipureintro; exact fun _ => (eSlot_congr _ _ _ _ (by rw [hcv]) g1).trans hg1
          iexact HE
        iexists g2; isplitr
        · ipureintro; exact fun _ => (xSlot_congr _ _ _ _ (by rw [hcv]) g2).trans hg2
        iexact HX
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · obtain ⟨k, hk⟩ : ∃ k, t.val = k + 1 := ⟨t.val - 1, by omega⟩
    have h3 : k0_cond3 (grid0.coords t) = 1#1 := (cond3_iff t).mpr (by omega)
    have eP : pS m c t.val = k0_pay2 (pS m c k) (eS m c k) (xS m c k) := by rw [hk]; rfl
    rw [PhiS_castSucc m c t, PhiS_pos m c _ k _ hk]
    by_cases hl : t.val = 10
    · have h4 : k0_cond4 (grid0.coords t) = 1#1 := (cond4_iff t).mpr hl
      have h1 : ¬ k0_cond1 (grid0.coords t) = 1#1 := fun h => by have := (cond1_iff t).mp h; omega
      rw [show (dats m 0 c).leavesExact 5 t = owns (c : Thread nD τ) (st5 t) fullShare ((dats m 0 c).after 5 t) from by
        unfold Dat.leavesExact; rw [live_5 t h4], after_5]
      have eD : dS m c t.val = dS m c k := by
        rw [hk]; conv_lhs => unfold dS
        exact if_neg (by omega)
      unfold held
      iintro ⟨⟨⟨HM, HD, HP, ⟨%f10, %hf10, HE⟩, ⟨%f11, %hf11, HX⟩⟩, Hg⟩, Ho, ⟨%d0, H0⟩, ⟨%d1, H1⟩, ⟨%d2, H2⟩, ⟨%d3, H3⟩, ⟨%d4, H4⟩, ⟨%d5, H5⟩⟩
      have eE := (eSlot_congr (((grid0.coords t 0).val + 1) % 2) (k % 2) (slot_lt _) (slot_lt _) (by rw [hcv]; omega) f10).trans (hf10 (by omega))
      have eX := (xSlot_congr (((grid0.coords t 0).val + 1) % 2) (k % 2) (slot_lt _) (slot_lt _) (by rw [hcv]; omega) f11).trans (hf11 (by omega))
      have eO : oS m c t = outC (iblk m c 3 t) (iblk m c 4 t) (dS m c k) (k0_pay2 (pS m c k) (eSlot (((grid0.coords t 0).val + 1) % 2) (slot_lt _) f10) (xSlot (((grid0.coords t 0).val + 1) % 2) (slot_lt _) f11)) := by
        unfold oS; rw [eE, eX, eP, show t.val - 1 = k from by omega]
      iapply (bodyLast c (grid0.coords t) _ _ _ _ _ _ _ _ _ _ _ _ _ _ _ _ _ _ _ _ _ _ h1 h3 h4 (iblk m c 0 t) (iblk m c 1 t) (iblk m c 2 t) (iblk m c 3 t) (iblk m c 4 t) (mS m c) (dS m c k) (pS m c k) f10 f11 Set.univ _)
      isplitl [H0]; · iexact H0
      isplitl [H1]; · iexact H1
      isplitl [H2]; · iexact H2
      isplitl [H3]; · iexact H3
      isplitl [H4]; · iexact H4
      isplitl [H5]; · iexists _; iexact H5
      isplitl [HM]; · iexact HM
      isplitl [HD]; · iexact HD
      isplitl [HP]; · iexact HP
      isplitl [HE]; · iexact HE
      isplitl [HX]; · iexact HX
      rw [eO, eD, eP, eE, eX]
      iintro ⟨H0, H1, H2, H3, H4, H5, HM, HD, HP, HE, HX⟩
      isplitl [HM HD HP HE HX Hg]
      · isplitl [HM HD HP HE HX]
        · isplitl [HM]; · iexact HM
          isplitl [HD]; · iexact HD
          isplitl [HP]; · iexact HP
          isplitl [HE]
          · iexists f10; isplitr
            · ipureintro; exact fun h => by omega
            iexact HE
          iexists f11; isplitr
          · ipureintro; exact fun h => by omega
          iexact HX
        iexact Hg
      isplitl [Ho]; · iexact Ho
      isplitl [H0]; · iexact H0
      isplitl [H1]; · iexact H1
      isplitl [H2]; · iexact H2
      isplitl [H3]; · iexact H3
      isplitl [H4]; · iexact H4
      iexact H5
    · have h4 : ¬ k0_cond4 (grid0.coords t) = 1#1 := fun h => by have := (cond4_iff t).mp h; omega
      rw [Dat.leavesExact_idle (dats m 0 c) 5 t (idle_5 t h4) (noFlush_5 t h4)]
      have htp : pt (k + 1) = t := hk ▸ pt_val t
      have eD : dS m c t.val = dNext (iblk m c 0 t) (iblk m c 1 t) (iblk m c 2 t) (mS m c) (dS m c k) := by
        rw [hk]; conv_lhs => unfold dS
        rw [if_pos (show k + 1 < 10 by omega), htp]
      have eE : eS m c t.val = eNew (iblk m c 0 t) (iblk m c 1 t) (iblk m c 2 t) (mS m c) := by unfold eS; rw [pt_val]
      have eX : xS m c t.val = k0_pay5 (iblk m c 0 t) := by unfold xS; rw [pt_val]
      unfold held
      iintro ⟨⟨⟨HM, HD, HP, ⟨%f10, %hf10, HE⟩, ⟨%f11, %hf11, HX⟩⟩, Hg⟩, Ho, ⟨%d0, H0⟩, ⟨%d1, H1⟩, ⟨%d2, H2⟩, ⟨%d3, H3⟩, ⟨%d4, H4⟩, ⟨%d5, H5⟩⟩
      have fE := (eSlot_congr (((grid0.coords t 0).val + 1) % 2) (k % 2) (slot_lt _) (slot_lt _) (by rw [hcv]; omega) f10).trans (hf10 (by omega))
      have fX := (xSlot_congr (((grid0.coords t 0).val + 1) % 2) (k % 2) (slot_lt _) (slot_lt _) (by rw [hcv]; omega) f11).trans (hf11 (by omega))
      iapply (bodyMiddle c (grid0.coords t) _ _ _ _ _ _ _ _ _ _ _ _ _ _ _ _ _ _ _ _ _ _ ((cond1_iff t).mpr (by omega)) (fun h => hz ((isFirst_iff t).mp h)) h3 h4 (iblk m c 0 t) (iblk m c 1 t) (iblk m c 2 t) (iblk m c 3 t) (iblk m c 4 t) _ (mS m c) (dS m c k) (pS m c k) f10 f11 Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HD]; · iexact HD
      isplitl [HP]; · iexact HP
      isplitl [HE]; · iexact HE
      isplitl [HX]; · iexact HX
      rw [eD, eP, eE, eX, fE, fX]
      iintro ⟨H0, H1, H2, H3, H4, H5, HM, HD, HP, ⟨%g1, %hg1, HE⟩, ⟨%g2, %hg2, HX⟩⟩
      isplitl [HM HD HP HE HX Hg]
      · isplitl [HM HD HP HE HX]
        · isplitl [HM]; · iexact HM
          isplitl [HD]; · iexact HD
          isplitl [HP]; · iexact HP
          isplitl [HE]
          · iexists g1; isplitr
            · ipureintro; exact fun _ => (eSlot_congr _ _ _ _ (by rw [hcv]) g1).trans hg1
            iexact HE
          iexists g2; isplitr
          · ipureintro; exact fun _ => (xSlot_congr _ _ _ _ (by rw [hcv]) g2).trans hg2
          iexact HX
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region starts in its invariant. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ 10 _ (by rw [Fin.val_last]; exact N_0), rest_eq]
  unfold held
  iintro ⟨⟨HM, HD, HP, ⟨%f10, -, HE⟩, ⟨%f11, -, HX⟩⟩, Hg⟩
  isplitl [HM HD HP HE HX]
  · isplitl [HM]; · iexists _; iexact HM
    isplitl [HD]; · iexists _; iexact HD
    isplitl [HP]; · iexists _; iexact HP
    isplitl [HE]; · iexists _; iexact HE
    iexists _; iexact HX
  iexact Hg

/-! ## The run and the frame -/

set_option backward.isDefEq.respectTransparency.types false in
/-- Every run ends with every array of the pipeline at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the arrays at their recorded contents. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Value.Blocks.lean ====
module

public import proofs.«01_k».proof.Proof.KernelIdeal.Frame
public import Idealize.ShloMosaic.Lib.Pipeline.ValueKit
public import Idealize.ShloMosaic.Lib.Pointwise

@[expose] public section

set_option maxRecDepth 16384

noncomputable section

/-! What the kernel's windows hold at each point, in terms of the argument arrays. -/

namespace Cert.KernelIdeal.Hand

open Idealize.ShloMosaic Idealize.ShloMosaic.TcCoe
open Cert.KernelIdeal.Gen

variable (m : (ℓ : Loc nD τ sig) → Buf (Elt Ideal) ℓ) (c : Dev nD)

/-- The block each input window reads at each point. -/
theorem idx : ∀ t : Fin cfg0.N, win0_0.index t = ![min t.val 9, 0] ∧ win0_1.index t = ![min t.val 9, 0, 0] ∧ win0_2.index t = ![0, 0]
    ∧ win0_3.index t = ![0, 0, 0] ∧ win0_4.index t = ![0, 0] ∧ win0_5.index t = ![0, 0] :=
  (by decide +kernel : ∀ t : Fin grid0.N, _)

/-- Rows `5000 n` onward of the feature array. -/
theorem iblk0_apply (t : Fin cfg0.N) (n : ℕ) (hn : n < 10) (ht : t.val = n) (r : Fin 5000) (k : Fin 256) :
    (iblk m c 0 t : Vec Ideal S5000x256 .f32) (ix2 r k)
      = (m ((c.tc : Thread nD τ).loc main_arg0) : Vec Ideal S50000x256 .f32) (ix2 ⟨n * 5000 + r.val, by omega⟩ k) := by
  blk_ext! [iblk, V, idx t]

/-- The graph words of the same rows, in sixteen bits. -/
theorem iblk1_apply (t : Fin cfg0.N) (n : ℕ) (hn : n < 10) (ht : t.val = n) (r : Fin 5000) :
    (iblk m c 1 t : Vec Ideal S1x1x5000 .i16) (ix3 0 0 r)
      = BitVec.setWidth 16 ((m ((c.tc : Thread nD τ).loc main_arg1) : IVec S50000 32) (ix1 ⟨n * 5000 + r.val, by omega⟩)) := by
  have e : (iblk m c 1 t : Vec Ideal S1x1x5000 .i16) (ix3 0 0 r) = (V m c main_v1 : Vec Ideal S10x1x5000 .i16) (ix3 ⟨n, hn⟩ 0 r) := by
    blk_ext! [iblk, idx t]
  refine e.trans ?_
  entry_read
  pointwise

/-- The scores' weights, whole. -/
theorem iblk2_eq (t : Fin cfg0.N) : (iblk m c 2 t : Vec Ideal S4x256 .f32) = m ((c.tc : Thread nD τ).loc main_arg2) := by
  blk_ext! [iblk, V, idx t]

/-- The linear maps' weights, whole. -/
theorem iblk3_eq (t : Fin cfg0.N) : (iblk m c 3 t : Vec Ideal S4x64x256 .f32) = m ((c.tc : Thread nD τ).loc main_arg3) := by
  blk_ext! [iblk, V, idx t]

/-- The linear maps' offsets, whole. -/
theorem iblk4_eq (t : Fin cfg0.N) : (iblk m c 4 t : Vec Ideal S4x64 .f32) = m ((c.tc : Thread nD τ).loc main_arg4) := by
  blk_ext! [iblk, V, idx t]

end Cert.KernelIdeal.Hand

end
-- ==== Proof.Value.Softmax.lean ====
module

public import Idealize.ShloMosaic.Lib.Pointwise
public import Idealize.ShloMosaic.Lib.StableHlo.Predicate

@[expose] public section

noncomputable section

/-! Attention pooling over the extended reals: averaging the rows first and applying the linear map once
    gives what averaging the mapped rows gives, whatever number the exponents are shifted by. -/

namespace Cert.Pooling

open Idealize.ShloMosaic

/-- The word of minus infinity. -/
theorem ofBits_neg_inf : Ideal.ofBits .f32 0xFF800000#32 = ⊥ := by simp [Ideal.ofBits, Ideal.ieee]

/-- The word of plus infinity. -/
theorem ofBits_inf : Ideal.ofBits .f32 0x7F800000#32 = ⊤ := by simp [Ideal.ofBits, Ideal.ieee]

/-- The exponential of a real number. -/
theorem exp_coe (r : ℝ) : Ideal.exp (r : EReal) = ((Real.exp r : ℝ) : EReal) := rfl

/-- Comparing the words of two graphs compares the graphs. -/
theorem select_member {α : Type} {w : ℕ} (hw : 64 ≤ 2 ^ w) (i j : Fin 64) (x y : α) :
    Scalar.select (IntOp.cmpi .eq (BitVec.ofNat w i.val) (BitVec.ofNat w j.val)) x y = if i = j then x else y := by
  have h : IntOp.cmpi .eq (BitVec.ofNat w i.val) (BitVec.ofNat w j.val) = 1#1 ↔ i = j := by
    rw [StableHlo.Predicate.cmpi_eq_iff, ← BitVec.toNat_inj, BitVec.toNat_ofNat, BitVec.toNat_ofNat,
      Nat.mod_eq_of_lt (i.isLt.trans_le hw), Nat.mod_eq_of_lt (j.isLt.trans_le hw), Fin.ext_iff]
  exact if_congr h rfl rfl

/-- A finite sum of real numbers is the same sum taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real number inside a choice between it and zero. -/
theorem coe_ite (p : Prop) [Decidable p] (a : ℝ) : ((if p then a else 0 : ℝ) : EReal) = if p then (a : EReal) else 0 := by
  split <;> rfl

/-- Division of reals among the extended reals. -/
theorem div_coe (a d : ℝ) (hd : d ≠ 0) : Ideal.div (a : EReal) (d : EReal) = ((a / d : ℝ) : EReal) := by
  unfold Ideal.div
  rw [if_neg (by exact_mod_cast hd), ← EReal.coe_inv, ← EReal.coe_mul, div_eq_mul_inv]

/-- The largest of finitely many values, each real or `-∞` and one of them real, is real. -/
theorem fold_max_real {ι : Type} (s : Finset ι) (f : ι → EReal) (hf : ∀ i ∈ s, f i ≠ ⊤) (h : ∃ i ∈ s, f i ≠ ⊥) :
    ∃ r : ℝ, s.fold max (⊥ : EReal) f = (r : EReal) := by
  obtain ⟨i, hi, hb⟩ := h
  have h1 : s.fold max (⊥ : EReal) f ≠ ⊤ :=
    ((Finset.fold_max_lt (c := (⊤ : EReal))).2 ⟨bot_lt_top, fun x hx => lt_top_iff_ne_top.2 (hf x hx)⟩).ne
  have h2 : s.fold max (⊥ : EReal) f ≠ ⊥ :=
    ((Finset.lt_fold_max (c := (⊥ : EReal))).2 (.inr ⟨i, hi, bot_lt_iff_ne_bot.2 hb⟩)).ne'
  exact ⟨_, (EReal.coe_toReal h1 h2).symm⟩

/-- A common factor comes out of a sum of nonnegative extended reals. -/
theorem sum_mul_nonneg {ι : Type} (s : Finset ι) (f : ι → EReal) (b : EReal) (hf : ∀ i ∈ s, 0 ≤ f i) :
    ∑ i ∈ s, f i * b = (∑ i ∈ s, f i) * b := by
  classical
  induction s using Finset.induction_on with
  | empty => simp
  | insert a s ha ih =>
    rw [Finset.sum_insert ha, Finset.sum_insert ha, ih fun i hi => hf i (Finset.mem_insert_of_mem hi),
      EReal.right_distrib_of_nonneg (hf a (Finset.mem_insert_self a s))
        (Finset.sum_nonneg fun i hi => hf i (Finset.mem_insert_of_mem hi))]

variable {N K G : ℕ} (B : Fin N → Fin G) (ga : Fin N → ℝ)

/-- The weight of a node: the exponential of its score less a shift. -/
def wt (M : ℝ) (n : Fin N) : ℝ := Real.exp (ga n - M)

/-- A group's total weight. -/
def den (w : Fin N → ℝ) (g : Fin G) : ℝ := ∑ n, if B n = g then w n else 0

/-- A group's weighted sum of one column. -/
def num (w : Fin N → ℝ) (X : Fin N → Fin K → ℝ) (g : Fin G) (k : Fin K) : ℝ := ∑ n, if B n = g then w n * X n k else 0

/-- The total weight of a group that has a node is positive. -/
theorem den_pos (w : Fin N → ℝ) (hw : ∀ n, 0 < w n) (g : Fin G) (n : Fin N) (hn : B n = g) : 0 < den B w g := by
  refine Finset.sum_pos' (fun i _ => ?_) ⟨n, Finset.mem_univ n, ?_⟩
  · split
    · exact (hw i).le
    · exact le_rfl
  · rw [if_pos hn]; exact hw n

/-- A softmax weight does not depend on the shift. -/
theorem weight_shift (M : ℝ) (Mx : Fin G → ℝ) (n : Fin N) :
    Real.exp (ga n - Mx (B n)) / den B (fun i => Real.exp (ga i - Mx (B i))) (B n) = wt ga M n / den B (wt ga M) (B n) := by
  have e : ∀ i, B i = B n → Real.exp (ga i - Mx (B i)) = wt ga M i * Real.exp (M - Mx (B n)) := fun i hi => by
    unfold wt
    rw [hi, ← Real.exp_add]
    ring_nf
  have d : den B (fun i => Real.exp (ga i - Mx (B i))) (B n) = den B (wt ga M) (B n) * Real.exp (M - Mx (B n)) := by
    unfold den
    rw [Finset.sum_mul]
    refine Finset.sum_congr rfl fun i _ => ?_
    by_cases h : B i = B n
    · rw [if_pos h, if_pos h]; exact e i h
    · rw [if_neg h, if_neg h, zero_mul]
  rw [d, e n rfl, mul_div_mul_right _ _ (Real.exp_pos _).ne']

/-- Pooling and then mapping equals mapping and then pooling: for every group `g`, whatever the bias `b`. -/
theorem pool (M : ℝ) (Mx : Fin G → ℝ) (X : Fin N → Fin K → ℝ) (W : Fin K → ℝ) (b : EReal) (g : Fin G) :
    (∑ k, Ideal.div ((num B (wt ga M) X g k : ℝ) : EReal) (if (0 : EReal) < (den B (wt ga M) g : ℝ) then ((den B (wt ga M) g : ℝ) : EReal) else 1) * (W k : EReal))
        + (if (0 : EReal) < (den B (wt ga M) g : ℝ) then (1 : EReal) else 0) * b
      = ∑ n, if B n = g then
          ((Real.exp (ga n - Mx (B n)) / den B (fun i => Real.exp (ga i - Mx (B i))) (B n) : ℝ) : EReal)
            * ((∑ k, (X n k : EReal) * (W k : EReal)) + b) else 0 := by
  by_cases hne : ∃ n, B n = g
  · obtain ⟨n₀, hn₀⟩ := hne
    have hD : 0 < den B (wt ga M) g := den_pos B (wt ga M) (fun n => Real.exp_pos _) g n₀ hn₀
    have hD' : (0 : EReal) < ((den B (wt ga M) g : ℝ) : EReal) := by exact_mod_cast hD
    rw [if_pos hD', if_pos hD', one_mul]
    have hR : ∀ n, (if B n = g then
          ((Real.exp (ga n - Mx (B n)) / den B (fun i => Real.exp (ga i - Mx (B i))) (B n) : ℝ) : EReal)
            * ((∑ k, (X n k : EReal) * (W k : EReal)) + b) else 0)
        = (((if B n = g then wt ga M n / den B (wt ga M) g * ∑ k, X n k * W k else 0 : ℝ)) : EReal)
          + (((if B n = g then wt ga M n / den B (wt ga M) g else 0 : ℝ)) : EReal) * b := fun n => by
      by_cases h : B n = g
      · rw [if_pos h, if_pos h, if_pos h, weight_shift B ga M Mx n, h,
          EReal.left_distrib_of_nonneg_of_ne_top (by
            have : 0 ≤ wt ga M n / den B (wt ga M) g := div_nonneg (Real.exp_pos _).le hD.le
            exact_mod_cast this) (EReal.coe_ne_top _)]
        rw [EReal.coe_mul, coe_sum]
        simp only [EReal.coe_mul]
      · rw [if_neg h, if_neg h, if_neg h, EReal.coe_zero, zero_mul, add_zero]
    rw [Finset.sum_congr rfl fun n _ => hR n, Finset.sum_add_distrib, sum_mul_nonneg _ _ _ fun n _ => by
      have : (0 : ℝ) ≤ if B n = g then wt ga M n / den B (wt ga M) g else 0 := by
        split
        · exact div_nonneg (Real.exp_pos _).le hD.le
        · exact le_rfl
      exact_mod_cast this]
    rw [← coe_sum, ← coe_sum]
    have h1 : ∑ n, (if B n = g then wt ga M n / den B (wt ga M) g else 0) = 1 := by
      rw [← div_self hD.ne']
      conv_rhs => arg 1; unfold den
      rw [Finset.sum_div]
      refine Finset.sum_congr rfl fun n _ => ?_
      split
      · rfl
      · rw [zero_div]
    rw [h1, EReal.coe_one, one_mul]
    refine congrArg (· + b) ?_
    have h2 : ∀ k, Ideal.div ((num B (wt ga M) X g k : ℝ) : EReal) ((den B (wt ga M) g : ℝ) : EReal) * (W k : EReal)
        = ((num B (wt ga M) X g k / den B (wt ga M) g * W k : ℝ) : EReal) := fun k => by
      rw [div_coe _ _ hD.ne', EReal.coe_mul]
    rw [Finset.sum_congr rfl fun k _ => h2 k, ← coe_sum]
    refine congrArg ((↑) : ℝ → EReal) ?_
    have h3 : ∀ n, (if B n = g then wt ga M n / den B (wt ga M) g * ∑ k, X n k * W k else 0)
        = ∑ k, (if B n = g then wt ga M n * X n k else 0) / den B (wt ga M) g * W k := fun n => by
      by_cases h : B n = g
      · simp only [if_pos h]
        rw [Finset.mul_sum]
        refine Finset.sum_congr rfl fun k _ => ?_
        ring
      · simp only [if_neg h, zero_div, zero_mul, Finset.sum_const_zero]
    rw [Finset.sum_congr rfl fun n _ => h3 n, Finset.sum_comm]
    refine Finset.sum_congr rfl fun k _ => ?_
    unfold num
    rw [Finset.sum_div, Finset.sum_mul]
  · have hz : ∀ n, B n ≠ g := fun n h => hne ⟨n, h⟩
    have hD : den B (wt ga M) g = 0 := Finset.sum_eq_zero fun n _ => if_neg (hz n)
    have hN : ∀ k, num B (wt ga M) X g k = 0 := fun k => Finset.sum_eq_zero fun n _ => if_neg (hz n)
    rw [Finset.sum_eq_zero (s := (Finset.univ : Finset (Fin N))) fun n _ => if_neg (hz n), hD, EReal.coe_zero,
      if_neg (lt_irrefl _), if_neg (lt_irrefl _), zero_mul, add_zero]
    refine Finset.sum_eq_zero fun k _ => ?_
    rw [hN k, EReal.coe_zero, ← EReal.coe_one, ← EReal.coe_zero, div_coe _ _ one_ne_zero, zero_div, EReal.coe_zero, zero_mul]

end Cert.Pooling

end
-- ==== Proof.Value.Payloads.lean ====
module

public import proofs.«01_k».proof.Proof.KernelIdeal.BodyState
public import proofs.«01_k».proof.Proof.Value.Softmax
public import Idealize.ShloMosaic.Lib.Pipeline.ValueKit

@[expose] public section

set_option maxRecDepth 16384

noncomputable section

/-! The kernel's vector expressions, read at one element over the extended reals. -/

namespace Cert.KernelIdeal.Hand

open Idealize.ShloMosaic
open Cert.KernelIdeal.Gen

/-- The scores of one block. -/
theorem pay7_apply (x0 : Vec Ideal S5000x256 .f32) (x2 : Vec Ideal S4x256 .f32) (h : Fin 4) (r : Fin 5000) :
    k0_pay7 x0 x2 (ix2 h r) = ∑ k : Fin 256, (x2 (ix2 h k) : EReal) * x0 (ix2 r k) := by
  pointwise [k0_pay7, k0_pay4]

/-- The largest score of the block, for each head. -/
theorem pay8_apply (x0 : Vec Ideal S5000x256 .f32) (x2 : Vec Ideal S4x256 .f32) (h : Fin 4) :
    k0_pay8 x0 x2 (ix2 h 0) = Finset.univ.fold max (⊥ : EReal) fun r : Fin 5000 => k0_pay7 x0 x2 (ix2 h r) := by
  pointwise [k0_pay8]
  rw [Cert.Pooling.ofBits_neg_inf]

/-- The denominators start at zero. -/
theorem pay9_apply (g : Fin 64) (h : Fin 4) : k0_pay9 (F := Ideal) (ix2 g h) = (0 : EReal) := by
  pointwise [k0_pay9]

/-- The pooled sums start at zero. -/
theorem pay10_apply (a b : Fin 256) : k0_pay10 (F := Ideal) (ix2 a b) = (0 : EReal) := by
  pointwise [k0_pay10]

/-- The exponentials of one block's shifted scores. -/
theorem pay11_apply (x0 : Vec Ideal S5000x256 .f32) (x2 : Vec Ideal S4x256 .f32) (s0 : Vec Ideal S4x1 .f32) (h : Fin 4) (r : Fin 5000) :
    k0_pay11 x0 x2 s0 (ix2 h r) = Ideal.exp (k0_pay7 x0 x2 (ix2 h r) - s0 (ix2 h 0)) := by
  pointwise [k0_pay11]

/-- The mask: does the row's graph word name the graph. -/
theorem pay6_apply (x1 : Vec Ideal S1x1x5000 .i16) (g : Fin 64) (r : Fin 5000) :
    k0_pay6 (F := Ideal) x1 (ix2 g r) = IntOp.cmpi .eq (x1 (ix3 0 0 r)) (BitVec.ofNat 16 g.val) := by
  pointwise [k0_pay6]

/-- The denominators with one more block's masked exponentials added. -/
theorem pay12_apply (x0 : Vec Ideal S5000x256 .f32) (x1 : Vec Ideal S1x1x5000 .i16) (x2 : Vec Ideal S4x256 .f32) (s0 : Vec Ideal S4x1 .f32) (s1 : Vec Ideal S64x4 .f32) (g : Fin 64) (h : Fin 4) :
    k0_pay12 x0 x1 x2 s0 s1 (ix2 g h) = (s1 (ix2 g h) : EReal) + ∑ r : Fin 5000, (Scalar.select (k0_pay6 (F := Ideal) x1 (ix2 g r)) (1 : EReal) 0) * k0_pay11 x0 x2 s0 (ix2 h r) := by
  pointwise [k0_pay12, k0_pay13]

/-- The pooled sums with one more block's product of exponentials and rows added. -/
theorem pay2_apply (s2 : Vec Ideal S256x256 .f32) (E : Vec Ideal S1x256x5000 .bf16) (X : Vec Ideal S1x5000x256 .bf16) (a b : Fin 256) :
    k0_pay2 s2 E X (ix2 a b) = (s2 (ix2 a b) : EReal) + ∑ r : Fin 5000, E (ix3 0 a r) * X (ix3 0 r b) := by
  pointwise [k0_pay2]

/-- The kept rows are the block's rows. -/
theorem pay5_apply (x0 : Vec Ideal S5000x256 .f32) (r : Fin 5000) (k : Fin 256) :
    k0_pay5 x0 (ix3 0 r k) = x0 (ix2 r k) := by
  pointwise [k0_pay5, k0_pay4]

/-- The first head's result: the averaged rows under the linear map, and the offset where the graph has a node. -/
theorem pay14_apply (d : Vec Ideal S64x1 .f32) (p : Vec Ideal S64x256 .f32) (W : Vec Ideal S1x64x256 .f32) (b : Vec Ideal S1x64 .f32) (g o : Fin 64) :
    k0_pay14 d p W b (ix2 g o) = (∑ k : Fin 256, Ideal.div (p (ix2 g k)) (if (0 : EReal) < d (ix2 g 0) then d (ix2 g 0) else 1) * W (ix3 0 o k))
      + (if (0 : EReal) < d (ix2 g 0) then 1 else 0) * b (ix2 0 o) := by
  pointwise [k0_pay14]

/-- The fourth head's result is the same expression. -/
theorem pay3_apply (d : Vec Ideal S64x1 .f32) (p : Vec Ideal S64x256 .f32) (W : Vec Ideal S1x64x256 .f32) (b : Vec Ideal S1x64 .f32) (g o : Fin 64) :
    k0_pay3 d p W b (ix2 g o) = k0_pay14 d p W b (ix2 g o) := rfl

/-- The third head's result is the same expression. -/
theorem pay18_apply (d : Vec Ideal S64x1 .f32) (p : Vec Ideal S64x256 .f32) (W : Vec Ideal S1x64x256 .f32) (b : Vec Ideal S1x64 .f32) (g o : Fin 64) :
    k0_pay18 d p W b (ix2 g o) = k0_pay14 d p W b (ix2 g o) := rfl

/-- The second head's result is the same expression. -/
theorem pay17_apply (d : Vec Ideal S64x1 .f32) (p : Vec Ideal S64x256 .f32) (W : Vec Ideal S1x64x256 .f32) (b : Vec Ideal S1x64 .f32) (g o : Fin 64) :
    k0_pay17 d (k0_pay15 d p) (k0_pay16 W) (constant S64x64 .f32 0x00000000#32) b (ix2 g o) = k0_pay14 d p W b (ix2 g o) := rfl

/-- Row `a` of graph `g` and head `h` in the stacked blocks. -/
def rowOf (h : Fin 4) (g : Fin 64) : Fin 256 := ⟨h.val * 64 + g.val, by omega⟩

/-- The stacked masked exponentials at the row of one head and graph. -/
theorem eNew_apply (x0 : Vec Ideal S5000x256 .f32) (x1 : Vec Ideal S1x1x5000 .i16) (x2 : Vec Ideal S4x256 .f32) (s0 : Vec Ideal S4x1 .f32)
    (h : Fin 4) (g : Fin 64) (r : Fin 5000) :
    eNew x0 x1 x2 s0 (ix3 0 (rowOf h g) r) = Scalar.select (k0_pay6 (F := Ideal) x1 (ix2 g r)) (k0_pay11 x0 x2 s0 (ix2 h r)) (0 : EReal) := by
  unfold eNew
  pointwise [k0_pay1, k0_pay13]
  have hg := g.isLt
  obtain ⟨h, hh⟩ := h
  obtain rfl | rfl | rfl | rfl : h = 0 ∨ h = 1 ∨ h = 2 ∨ h = 3 := by omega
  · have hr : (rowOf ⟨0, hh⟩ g).val = 0 * 64 + g.val := rfl
    rw [dif_pos (by omega)]
    exact congrArg (fun a => Scalar.select (k0_pay6 (F := Ideal) x1 (ix2 a r)) (k0_pay11 x0 x2 s0 (ix2 0 r)) (0 : EReal)) (Fin.ext (show (rowOf ⟨0, hh⟩ g).val = g.val by omega))
  · have hr : (rowOf ⟨1, hh⟩ g).val = 1 * 64 + g.val := rfl
    rw [dif_neg (by omega), dif_pos (by omega)]
    exact congrArg (fun a => Scalar.select (k0_pay6 (F := Ideal) x1 (ix2 a r)) (k0_pay11 x0 x2 s0 (ix2 1 r)) (0 : EReal)) (Fin.ext (show (rowOf ⟨1, hh⟩ g).val - 64 = g.val by omega))
  · have hr : (rowOf ⟨2, hh⟩ g).val = 2 * 64 + g.val := rfl
    rw [dif_neg (by omega), dif_neg (by omega), dif_pos (by omega)]
    exact congrArg (fun a => Scalar.select (k0_pay6 (F := Ideal) x1 (ix2 a r)) (k0_pay11 x0 x2 s0 (ix2 2 r)) (0 : EReal)) (Fin.ext (show (rowOf ⟨2, hh⟩ g).val - 64 - 64 = g.val by omega))
  · have hr : (rowOf ⟨3, hh⟩ g).val = 3 * 64 + g.val := rfl
    rw [dif_neg (by omega), dif_neg (by omega), dif_neg (by omega)]
    exact congrArg (fun a => Scalar.select (k0_pay6 (F := Ideal) x1 (ix2 a r)) (k0_pay11 x0 x2 s0 (ix2 3 r)) (0 : EReal)) (Fin.ext (show (rowOf ⟨3, hh⟩ g).val - 64 - 64 - 64 = g.val by omega))

/-- The place of an element inside the column block it lies in. -/
theorem piece_at (k : Fin 4) (d : Fin 4) (o g : Fin 64) (x : S64x64.Idx) (h0 : ((ix2 g (rowOf d o) : S64x256.Idx) 0).val = (x 0).val)
    (h1 : ((ix2 g (rowOf d o) : S64x256.Idx) 1).val = k.val * 64 + (x 1).val) : d = k ∧ x = ix2 g o := by
  have e0 : g.val = (x 0).val := h0
  have e1 : d.val * 64 + o.val = k.val * 64 + (x 1).val := h1
  have ho := o.isLt
  have hx : (x 1).val < 64 := (x 1).isLt
  refine ⟨Fin.ext (by omega), funext fun a => ?_⟩
  match a with
  | 0 => exact Fin.ext e0.symm
  | 1 => exact Fin.ext (show (x 1).val = o.val by omega)

/-- The stored result at the column of one head. -/
theorem outC_apply (x3 : Vec Ideal S4x64x256 .f32) (x4 : Vec Ideal S4x64 .f32) (s1 : Vec Ideal S64x4 .f32) (s2 : Vec Ideal S256x256 .f32)
    (d : Fin 4) (g o : Fin 64) :
    outC x3 x4 s1 s2 (ix2 g (rowOf d o)) = (∑ k : Fin 256, Ideal.div (s2 (ix2 (rowOf d g) k)) (if (0 : EReal) < s1 (ix2 g d) then s1 (ix2 g d) else 1) * x3 (ix3 d o k))
      + (if (0 : EReal) < s1 (ix2 g d) then 1 else 0) * x4 (ix2 d o) := by
  unfold outC
  canon_tiles x h
  · obtain ⟨rfl, rfl⟩ := piece_at 3 d o g x h0 (h1.trans (by omega))
    rw [pay3_apply, pay14_apply]
    pointwise
    rw [show rowOf 3 g = ⟨192 + g.val, by omega⟩ from Fin.ext (by simp [rowOf])]
  · obtain ⟨rfl, rfl⟩ := piece_at 2 d o g x h0 (h1.trans (by omega))
    rw [pay18_apply, pay14_apply]
    pointwise
    rw [show rowOf 2 g = ⟨128 + g.val, by omega⟩ from Fin.ext (by simp [rowOf])]
  · obtain ⟨rfl, rfl⟩ := piece_at 1 d o g x h0 (h1.trans (by omega))
    rw [pay17_apply, pay14_apply]
    pointwise
    rw [show rowOf 1 g = ⟨64 + g.val, by omega⟩ from Fin.ext (by simp [rowOf])]
  · obtain ⟨rfl, rfl⟩ := piece_at 0 d o g x h0 (h1.trans (by omega))
    rw [pay14_apply]
    pointwise
    rw [show rowOf 0 g = ⟨g.val, by omega⟩ from Fin.ext (by simp [rowOf])]

end Cert.KernelIdeal.Hand

end
-- ==== Proof.Value.KernelValue.lean ====
module

public import proofs.«01_k».proof.Proof.Value.Blocks
public import proofs.«01_k».proof.Proof.Value.Payloads

@[expose] public section

set_option maxRecDepth 16384

noncomputable section

/-! What the kernel's running maximum, denominators and pooled sums are, as sums over the nodes. -/

namespace Cert.KernelIdeal.Hand

open Idealize.ShloMosaic Idealize.ShloMosaic.TcCoe
open Cert.KernelIdeal.Gen
open Cert.Pooling (wt den num)

/-- Node `r` of block `n`. -/
def node (n : ℕ) (hn : n < 10) (r : Fin 5000) : Fin 50000 := ⟨n * 5000 + r.val, by omega⟩

/-- The score of a node for one head. -/
def score (X : Fin 50000 → Fin 256 → ℝ) (G : Fin 4 → Fin 256 → ℝ) (h : Fin 4) (n : Fin 50000) : ℝ := ∑ k, G h k * X n k

/-- A function of the nodes as a function of the natural numbers, zero elsewhere. -/
def ext (f : Fin 50000 → ℝ) (i : ℕ) : ℝ := if h : i < 50000 then f ⟨i, h⟩ else 0

/-- One more block of nodes added to a sum over the blocks before it. -/
theorem ext_step (f : Fin 50000 → ℝ) (n : ℕ) (hn : n < 10) :
    ∑ i ∈ Finset.range (n * 5000), ext f i + ∑ r : Fin 5000, f (node n hn r) = ∑ i ∈ Finset.range ((n + 1) * 5000), ext f i := by
  rw [Nat.add_mul, Nat.one_mul, Finset.sum_range_add, Finset.sum_range (n := 5000)]
  congr 1
  refine Finset.sum_congr rfl fun r _ => ?_
  unfold ext
  rw [dif_pos (by omega)]
  rfl

/-- The ten blocks are all the nodes. -/
theorem ext_all (f : Fin 50000 → ℝ) : ∑ i ∈ Finset.range (10 * 5000), ext f i = ∑ n, f n := by
  rw [show 10 * 5000 = 50000 from rfl, Finset.sum_range]
  refine Finset.sum_congr rfl fun n _ => ?_
  unfold ext
  rw [dif_pos n.isLt]

variable (m : (ℓ : Loc nD τ sig) → Buf (Elt Ideal) ℓ) (c : Dev nD)
variable (B : Fin 50000 → Fin 64) (X : Fin 50000 → Fin 256 → ℝ) (G : Fin 4 → Fin 256 → ℝ)
variable (hB : ∀ n, (m ((c.tc : Thread nD τ).loc main_arg1) : IVec S50000 32) (ix1 n) = BitVec.ofNat 32 (B n).val)
variable (hX : ∀ n k, (m ((c.tc : Thread nD τ).loc main_arg0) : FVec Ideal S50000x256 .f32) (ix2 n k) = (X n k : EReal))
variable (hG : ∀ h k, (m ((c.tc : Thread nD τ).loc main_arg2) : FVec Ideal S4x256 .f32) (ix2 h k) = (G h k : EReal))

/-- The position of a point before the last. -/
theorem pt_lt (n : ℕ) (hn : n < 10) : (pt n).val = n := Nat.mod_eq_of_lt (by omega)

section Scores
include hX hG

/-- The scores of one block. -/
theorem gate_block (n : ℕ) (hn : n < 10) (h : Fin 4) (r : Fin 5000) :
    k0_pay7 (iblk m c 0 (pt n) : Vec Ideal S5000x256 .f32) (iblk m c 2 (pt n) : Vec Ideal S4x256 .f32) (ix2 h r) = (score X G h (node n hn r) : EReal) := by
  refine (pay7_apply _ _ h r).trans ?_
  unfold score
  rw [Cert.Pooling.coe_sum]
  refine Finset.sum_congr rfl fun k _ => ?_
  rw [EReal.coe_mul]
  exact Ideal.mul_congr ((congrFun (iblk2_eq m c (pt n)) (ix2 h k)).trans (hG h k)) ((iblk0_apply m c (pt n) n hn (pt_lt n hn) r k).trans (hX _ k))

/-- The shift of each head is a real number. -/
theorem shift_real (h : Fin 4) : ∃ M : ℝ, mS m c (ix2 h 0) = (M : EReal) := by
  obtain ⟨M, hM⟩ := Cert.Pooling.fold_max_real (Finset.univ : Finset (Fin 5000)) (fun r => (score X G h (node 0 (by decide) r) : EReal))
    (fun r _ => EReal.coe_ne_top _) ⟨0, Finset.mem_univ _, EReal.coe_ne_bot _⟩
  refine ⟨M, ?_⟩
  show k0_pay8 (iblk m c 0 (pt 0) : Vec Ideal S5000x256 .f32) (iblk m c 2 (pt 0) : Vec Ideal S4x256 .f32) (ix2 h 0) = _
  rw [← hM, pay8_apply]
  exact Finset.fold_congr fun r _ => gate_block m c X G hX hG 0 (by decide) h r

variable (M : Fin 4 → ℝ) (hM : ∀ h, mS m c (ix2 h 0) = (M h : EReal))
include hM

/-- The exponentials of one block. -/
theorem exp_block (n : ℕ) (hn : n < 10) (h : Fin 4) (r : Fin 5000) :
    k0_pay11 (iblk m c 0 (pt n) : Vec Ideal S5000x256 .f32) (iblk m c 2 (pt n) : Vec Ideal S4x256 .f32) (mS m c) (ix2 h r)
      = (wt (score X G h) (M h) (node n hn r) : EReal) := by
  refine (pay11_apply _ _ _ h r).trans ?_
  rw [gate_block m c X G hX hG n hn h r, hM h, ← EReal.coe_sub]
  exact Cert.Pooling.exp_coe _

end Scores

section Sums
include hB

/-- The mask of one block: does the node lie in the graph. -/
theorem mask_block (n : ℕ) (hn : n < 10) (g : Fin 64) (r : Fin 5000) (x y : EReal) :
    Scalar.select (k0_pay6 (F := Ideal) (iblk m c 1 (pt n) : Vec Ideal S1x1x5000 .i16) (ix2 g r)) x y = if B (node n hn r) = g then x else y := by
  rw [pay6_apply, iblk1_apply m c (pt n) n hn (pt_lt n hn) r]
  have e : BitVec.setWidth 16 ((m ((c.tc : Thread nD τ).loc main_arg1) : IVec S50000 32) (ix1 (node n hn r))) = BitVec.ofNat 16 (B (node n hn r)).val := by
    rw [hB]
    have := (B (node n hn r)).isLt
    apply BitVec.eq_of_toNat_eq
    rw [BitVec.toNat_setWidth, BitVec.toNat_ofNat, BitVec.toNat_ofNat]
    omega
  refine Eq.trans (congrArg (fun w => Scalar.select (IntOp.cmpi .eq w (BitVec.ofNat 16 g.val)) x y) e) ?_
  exact Cert.Pooling.select_member (by norm_num) _ _ _ _

include hX hG
variable (M : Fin 4 → ℝ) (hM : ∀ h, mS m c (ix2 h 0) = (M h : EReal))
include hM

/-- One more block's share of the denominators. -/
theorem dNext_block (n : ℕ) (hn : n < 10) (s1 : Vec Ideal S64x4 .f32) (g : Fin 64) (h : Fin 4) :
    dNext (iblk m c 0 (pt n)) (iblk m c 1 (pt n)) (iblk m c 2 (pt n)) (mS m c) s1 (ix2 g h)
      = (s1 (ix2 g h) : EReal) + ((∑ r : Fin 5000, if B (node n hn r) = g then wt (score X G h) (M h) (node n hn r) else 0 : ℝ) : EReal) := by
  refine (pay12_apply _ _ _ _ _ g h).trans ?_
  rw [Cert.Pooling.coe_sum]
  refine Ideal.add_congr rfl ?_
  refine Finset.sum_congr rfl fun r _ => ?_
  rw [Cert.Pooling.coe_ite, exp_block m c X G hX hG M hM n hn h r, mask_block m c B hB n hn g r]
  split
  · rw [one_mul]
  · rw [zero_mul]

/-- The denominators after a block. -/
theorem dS_apply (g : Fin 64) (h : Fin 4) : ∀ n, n < 10 → dS m c n (ix2 g h)
    = ((∑ i ∈ Finset.range ((n + 1) * 5000), ext (fun a => if B a = g then wt (score X G h) (M h) a else 0) i : ℝ) : EReal)
  | 0, hn => by
    refine (dNext_block m c B X G hB hX hG M hM 0 hn _ g h).trans ?_
    rw [pay9_apply, zero_add, ← ext_step _ 0 hn, Nat.zero_mul, Finset.range_zero, Finset.sum_empty, zero_add]
  | n + 1, hn => by
    have e : dS m c (n + 1) = dNext (iblk m c 0 (pt (n + 1))) (iblk m c 1 (pt (n + 1))) (iblk m c 2 (pt (n + 1))) (mS m c) (dS m c n) := if_pos hn
    rw [e, dNext_block m c B X G hB hX hG M hM (n + 1) hn _ g h, dS_apply g h n (by omega), ← EReal.coe_add, ext_step _ (n + 1) hn]

/-- The denominators after the last block. -/
theorem dS_final (g : Fin 64) (h : Fin 4) : dS m c 9 (ix2 g h) = (den B (wt (score X G h) (M h)) g : EReal) := by
  rw [dS_apply m c B X G hB hX hG M hM g h 9 (by decide)]
  exact congrArg _ (ext_all _)

/-- The pooled sums after the blocks before `n`. -/
theorem pS_apply (h : Fin 4) (g : Fin 64) (k : Fin 256) : ∀ n, n ≤ 10 → pS m c n (ix2 (rowOf h g) k)
    = ((∑ i ∈ Finset.range (n * 5000), ext (fun a => if B a = g then wt (score X G h) (M h) a * X a k else 0) i : ℝ) : EReal)
  | 0, _ => by
    rw [Nat.zero_mul, Finset.range_zero, Finset.sum_empty]
    exact pay10_apply _ _
  | n + 1, hn => by
    have hn' : n < 10 := hn
    refine (pay2_apply (pS m c n) (eS m c n) (xS m c n) (rowOf h g) k).trans ?_
    rw [← ext_step _ n hn', EReal.coe_add, ← pS_apply h g k n (by omega), Cert.Pooling.coe_sum]
    refine Ideal.add_congr rfl ?_
    refine Finset.sum_congr rfl fun r _ => ?_
    have e1 : eS m c n (ix3 0 (rowOf h g) r) = if B (node n hn' r) = g then (wt (score X G h) (M h) (node n hn' r) : EReal) else 0 := by
      refine (eNew_apply _ _ _ _ h g r).trans ?_
      rw [exp_block m c X G hX hG M hM n hn' h r]
      exact mask_block m c B hB n hn' g r _ _
    have e2 : xS m c n (ix3 0 r k) = (X (node n hn' r) k : EReal) :=
      (pay5_apply _ r k).trans ((iblk0_apply m c (pt n) n hn' (pt_lt n hn') r k).trans (hX _ k))
    rw [e1, e2, Cert.Pooling.coe_ite]
    split
    · rw [EReal.coe_mul]
    · rw [zero_mul]

/-- The pooled sums after the last block. -/
theorem pS_final (h : Fin 4) (g : Fin 64) (k : Fin 256) : pS m c 10 (ix2 (rowOf h g) k) = (num B (wt (score X G h) (M h)) X g k : EReal) := by
  rw [pS_apply m c B X G hB hX hG M hM h g k 10 (le_refl _)]
  exact congrArg _ (ext_all _)

end Sums

/-- The kernel's result at one element: the pooled averages under the head's linear map. -/
theorem kernel_apply (B : Fin 50000 → Fin 64) (X : Fin 50000 → Fin 256 → ℝ) (G : Fin 4 → Fin 256 → ℝ) (W : Fin 4 → Fin 64 → Fin 256 → ℝ)
    (hB : ∀ n, (m ((c.tc : Thread nD τ).loc main_arg1) : IVec S50000 32) (ix1 n) = BitVec.ofNat 32 (B n).val)
    (hX : ∀ n k, (m ((c.tc : Thread nD τ).loc main_arg0) : FVec Ideal S50000x256 .f32) (ix2 n k) = (X n k : EReal))
    (hG : ∀ h k, (m ((c.tc : Thread nD τ).loc main_arg2) : FVec Ideal S4x256 .f32) (ix2 h k) = (G h k : EReal))
    (hW : ∀ h o k, (m ((c.tc : Thread nD τ).loc main_arg3) : FVec Ideal S4x64x256 .f32) (ix3 h o k) = (W h o k : EReal))
    (t : Fin cfg0.N) (ht : t.val = 10) (h : Fin 4) (g o : Fin 64) (Mx : Fin 64 → ℝ) :
    oS m c t (ix2 g (rowOf h o)) = ∑ n, if B n = g then
      ((Real.exp (score X G h n - Mx (B n)) / den B (fun i => Real.exp (score X G h i - Mx (B i))) (B n) : ℝ) : EReal)
        * ((∑ k, (X n k : EReal) * (W h o k : EReal)) + (m ((c.tc : Thread nD τ).loc main_arg4) : FVec Ideal S4x64 .f32) (ix2 h o)) else (0 : EReal) := by
  choose M hM using shift_real m c X G hX hG
  refine Eq.trans ?_ (Cert.Pooling.pool B (score X G h) (M h) Mx X (W h o) ((m ((c.tc : Thread nD τ).loc main_arg4) : FVec Ideal S4x64 .f32) (ix2 h o)) g)
  unfold oS
  rw [outC_apply, show t.val - 1 = 9 by omega, ht, dS_final m c B X G hB hX hG M hM g h]
  refine Ideal.add_congr (Finset.sum_congr rfl fun k _ => Ideal.mul_congr ?_ ?_) (Ideal.mul_congr rfl ?_)
  · rw [pS_final m c B X G hB hX hG M hM h g k]
  · exact (congrFun (iblk3_eq m c t) (ix3 h o k)).trans (hW h o k)
  · exact congrFun (iblk4_eq m c t) (ix2 h o)

/-- The result array ends as the last point's block. -/
theorem result_eq : (dats m 0 c).arrAt 5 cfg0.N = oS m c t0_10 := by
  refine (dats m 0 c).arrAt_eq_of_after_last 5 t0_10 (by decide +kernel) _ fun j => ?_
  rw [after_5]
  blk_simp
  rfl

end Cert.KernelIdeal.Hand

end
-- ==== Proof.Value.Scatter.lean ====
module

public import proofs.«01_k».proof.Proof.Gen.ReferenceIdeal
public import Idealize.ShloMosaic.Lib.Pointwise
public import Idealize.ShloMosaic.Lib.Routing.OpsPair
public import Idealize.ShloMosaic.Lib.Routing.OpsSet

@[expose] public section

set_option maxRecDepth 16384

noncomputable section

/-! The reference's segment sums and lookups, read at one element. -/

namespace Cert.ReferenceIdeal.Hand

open Idealize.ShloMosaic Cert.ReferenceIdeal

variable [Facts]

/-- Where a node's scalar lands: at the graph its index word names. -/
theorem lands1 (idx : IVec S50000x1 32) (n : Fin 50000) (g : Fin 64) :
    scatter_S64_S50000x1_S50000_n_0_0_1.resultIdx? (ix1 n) idx = some (ix1 g) ↔ (idx (ix2 n 0)).toInt = (g.val : ℤ) := by
  have hw : scatter_S64_S50000x1_S50000_n_0_0_1.window (ix1 n) 0 = 0 := rfl
  have hs : scatter_S64_S50000x1_S50000_n_0_0_1.start (ix1 n) idx 0 = (idx (ix2 n 0)).toInt := by
    unfold ScatterDims.start
    rw [dif_pos (by decide)]
    refine congrArg (fun i => (idx i).toInt) (funext fun b => ?_)
    match b with
    | ⟨0, _⟩ => rfl
    | ⟨1, _⟩ => rfl
  rw [Routing.resultIdx?_eq_some]
  constructor
  · intro h
    have h0 := h 0
    rw [hw, hs] at h0
    simpa using h0
  · intro h a
    match a with
    | ⟨0, _⟩ =>
      show scatter_S64_S50000x1_S50000_n_0_0_1.start (ix1 n) idx 0 + (scatter_S64_S50000x1_S50000_n_0_0_1.window (ix1 n) 0 : ℤ) = _
      rw [hw, hs]
      simpa using h

/-- Where entry `o` of a node's row lands: in the row of the graph its index word names, at `o`. -/
theorem lands2 (idx : IVec S50000x1 32) (n : Fin 50000) (o' : Fin 64) (g o : Fin 64) :
    scatter_S64x64_S50000x1_S50000x64_1_0_0_1.resultIdx? (ix2 n o') idx = some (ix2 g o) ↔ (idx (ix2 n 0)).toInt = (g.val : ℤ) ∧ o' = o := by
  have hw0 : scatter_S64x64_S50000x1_S50000x64_1_0_0_1.window (ix2 n o') 0 = 0 := rfl
  have hw1 : scatter_S64x64_S50000x1_S50000x64_1_0_0_1.window (ix2 n o') 1 = o'.val := rfl
  have hs1 : scatter_S64x64_S50000x1_S50000x64_1_0_0_1.start (ix2 n o') idx 1 = 0 := rfl
  have hs0 : scatter_S64x64_S50000x1_S50000x64_1_0_0_1.start (ix2 n o') idx 0 = (idx (ix2 n 0)).toInt := by
    unfold ScatterDims.start
    rw [dif_pos (by decide)]
    refine congrArg (fun i => (idx i).toInt) (funext fun b => ?_)
    match b with
    | ⟨0, _⟩ => rfl
    | ⟨1, _⟩ => rfl
  rw [Routing.resultIdx?_eq_some]
  constructor
  · intro h
    have h0 := h 0
    have h1 := h 1
    rw [hw0, hs0] at h0
    rw [hw1, hs1] at h1
    refine ⟨by simpa using h0, Fin.ext ?_⟩
    have : (0 : ℤ) + (o'.val : ℤ) = (o.val : ℤ) := h1
    omega
  · rintro ⟨h, rfl⟩ a
    match a with
    | ⟨0, _⟩ =>
      show scatter_S64x64_S50000x1_S50000x64_1_0_0_1.start (ix2 n o') idx 0 + (scatter_S64x64_S50000x1_S50000x64_1_0_0_1.window (ix2 n o') 0 : ℤ) = _
      rw [hw0, hs0]
      simpa using h
    | ⟨1, _⟩ =>
      show scatter_S64x64_S50000x1_S50000x64_1_0_0_1.start (ix2 n o') idx 1 + (scatter_S64x64_S50000x1_S50000x64_1_0_0_1.window (ix2 n o') 1 : ℤ) = _
      rw [hw1, hs1]
      show (0 : ℤ) + (o'.val : ℤ) = (o'.val : ℤ)
      omega

/-- A segment sum of scalars at graph `g`: the sum over the nodes whose index word is `g`. -/
theorem segsum1 (x : FVec Ideal S64 .f32) (idx : IVec S50000x1 32) (upd : FVec Ideal S50000 .f32) (g : Fin 64) :
    Host.scatterAdd (F := Ideal) scatter_S64_S50000x1_S50000_n_0_0_1 x idx upd (ix1 g)
      = x (ix1 g) + ∑ n : Fin 50000, if (idx (ix2 n 0)).toInt = (g.val : ℤ) then upd (ix1 n) else (0 : EReal) := by
  show Ideal.hostScatterAdd scatter_S64_S50000x1_S50000_n_0_0_1 x idx upd (ix1 g) = _
  unfold Ideal.hostScatterAdd
  rw [Finset.sum_filter, sum_idx1]
  refine congrArg (fun s => x (ix1 g) + s) (Finset.sum_congr rfl fun n _ => ?_)
  exact if_congr (lands1 idx n g) rfl rfl

/-- A segment sum of rows at graph `g`: entrywise the sum over the nodes whose index word is `g`. -/
theorem segsum2 (x : FVec Ideal S64x64 .f32) (idx : IVec S50000x1 32) (upd : FVec Ideal S50000x64 .f32) (g o : Fin 64) :
    Host.scatterAdd (F := Ideal) scatter_S64x64_S50000x1_S50000x64_1_0_0_1 x idx upd (ix2 g o)
      = x (ix2 g o) + ∑ n : Fin 50000, if (idx (ix2 n 0)).toInt = (g.val : ℤ) then upd (ix2 n o) else (0 : EReal) := by
  show Ideal.hostScatterAdd scatter_S64x64_S50000x1_S50000x64_1_0_0_1 x idx upd (ix2 g o) = _
  unfold Ideal.hostScatterAdd
  rw [Finset.sum_filter, sum_idx2]
  refine congrArg (fun s => x (ix2 g o) + s) (Finset.sum_congr rfl fun n _ => ?_)
  rw [Finset.sum_eq_single o]
  · exact if_congr ((lands2 idx n o g o).trans (and_iff_left rfl)) rfl rfl
  · intro o' _ ho
    exact if_neg fun h => ho ((lands2 idx n o' g o).1 h).2
  · intro h
    exact absurd (Finset.mem_univ o) h

/-- A lookup by a node's graph: the entry its index word names. -/
theorem lookup {α : Type} (x : S64.Idx → α) (idx : IVec S50000x1 32) (n : Fin 50000) (b : Fin 64) (hb : idx (ix2 n 0) = BitVec.ofNat 32 b.val) :
    Host.gather gather_S64_S50000x1_S50000_n_0_n_n_0_1_1 x idx (ix1 n) = x (ix1 b) :=
  Routing.gather_take1 gather_S64_S50000x1_S50000_n_0_n_n_0_1_1 rfl rfl rfl rfl x idx n b hb (by decide)

end Cert.ReferenceIdeal.Hand

end
-- ==== Proof.Value.Reference.lean ====
module

public import proofs.«01_k».proof.Proof.Gen.ReferenceIdeal.Run
public import proofs.«01_k».proof.Proof.Value.Scatter
public import proofs.«01_k».proof.Proof.Value.Softmax

@[expose] public section

set_option maxRecDepth 16384

noncomputable section

/-! The reference's operations of one head, read at one element. -/

namespace Cert.ReferenceIdeal.Hand

open Idealize.ShloMosaic Cert.ReferenceIdeal Facts₀ Facts

variable [Facts]

/-- The nodes' graphs as a column of index words. -/
def plainIdx (b : IVec S50000 32) : IVec S50000x1 32 := broadcastInDim S50000x1 ![0] bcast_S50000_S50000x1_0 b

/-- The same column with a negative word moved up by the number of graphs. -/
def wrapIdx (b : IVec S50000 32) : IVec S50000x1 32 :=
  broadcastInDim S50000x1 ![0] bcast_S50000_S50000x1_0 (select (cmpi .slt b (broadcastInDim S50000 ![] bcast_S_S50000 (constantI S_ 32 0#32))) (addi b (broadcastInDim S50000 ![] bcast_S_S50000 (constantI S_ 32 64#32))) b)

/-- The largest score of each graph. -/
def maxOf (b : IVec S50000 32) (gate : FVec Ideal S50000 .f32) : FVec Ideal S64 .f32 :=
  Host.reduce FloatOps.maximumf (select (cmpi .eq (broadcastInDim S50000x64 ![0, 1] bcast_S50000x1_S50000x64_0_1 (broadcastInDim S50000x1 ![0] bcast_S50000_S50000x1_0 b)) (broadcastInDim S50000x64 ![0, 1] bcast_S1x64_S50000x64_0_1 (broadcastInDim S1x64 ![1] bcast_S64_S1x64_1 (iotaInDim S64 32 0)))) (broadcastInDim S50000x64 ![0, 1] bcast_S50000x1_S50000x64_0_1 (broadcastInDim S50000x1 ![0] bcast_S50000_S50000x1_0 gate)) (broadcastInDim S50000x64 ![] bcast_S_S50000x64 (id (constant S_ .f32 0xFF800000#32)))) (constant S_ .f32 0xFF800000#32) reducesTo_S50000x64_S64_d0 h_S_

/-- The nodes' exponentials. -/
def eOf (b : IVec S50000 32) (gate : FVec Ideal S50000 .f32) : FVec Ideal S50000 .f32 :=
  Host.exp (subf gate (Host.gather gather_S64_S50000x1_S50000_n_0_n_n_0_1_1 (maxOf b gate) (wrapIdx b)))

/-- The nodes' softmax weights. -/
def alphaOf (b : IVec S50000 32) (e : FVec Ideal S50000 .f32) : FVec Ideal S50000 .f32 :=
  Host.divf e (Host.gather gather_S64_S50000x1_S50000_n_0_n_n_0_1_1 (Host.scatterAdd scatter_S64_S50000x1_S50000_n_0_0_1 (broadcastInDim S64 ![] bcast_S_S64 (constant S_ .f32 0x00000000#32)) (plainIdx b) e) (wrapIdx b))

/-- One head's result from its exponentials and its mapped rows. -/
def headOf (b : IVec S50000 32) (e : FVec Ideal S50000 .f32) (hf : FVec Ideal S50000x64 .f32) : FVec Ideal S64x64 .f32 :=
  Host.scatterAdd scatter_S64x64_S50000x1_S50000x64_1_0_0_1 (broadcastInDim S64x64 ![] bcast_S_S64x64 (constant S_ .f32 0x00000000#32)) (plainIdx b)
    (mulf (broadcastInDim S50000x64 ![0, 1] bcast_S50000x1_S50000x64_0_1 (broadcastInDim S50000x1 ![0] bcast_S50000_S50000x1_0 (alphaOf b e))) hf)

section Reads

variable (b : IVec S50000 32) (B : Fin 50000 → Fin 64) (hb : ∀ n, b (ix1 n) = BitVec.ofNat 32 (B n).val)
include hb

/-- A node's index word is its graph's. -/
theorem plainIdx_apply (n : Fin 50000) : plainIdx b (ix2 n 0) = BitVec.ofNat 32 (B n).val := by
  refine Eq.trans ?_ (hb n)
  pointwise [plainIdx]

/-- Moving negative words up changes no graph's word. -/
theorem wrapIdx_apply (n : Fin 50000) : wrapIdx b (ix2 n 0) = BitVec.ofNat 32 (B n).val := by
  have h : wrapIdx b (ix2 n 0) = Scalar.select (IntOp.cmpi .slt (b (ix1 n)) 0#32) (IntOp.addi (b (ix1 n)) 64#32) (b (ix1 n)) := by
    pointwise [wrapIdx]
  rw [h, Routing.wrap_of_lt, hb n]
  rw [hb n, BitVec.toNat_ofNat]
  have := (B n).isLt
  omega

/-- A node lands in the graph it belongs to and in no other. -/
theorem lands_iff (n : Fin 50000) (g : Fin 64) : (plainIdx b (ix2 n 0)).toInt = (g.val : ℤ) ↔ B n = g := by
  have := (B n).isLt
  rw [plainIdx_apply b B hb n, StableHlo.Predicate.toInt_ofNat_small _ (by omega)]
  exact ⟨fun h => Fin.ext (by exact_mod_cast h), fun h => by rw [h]⟩

/-- The largest score of a graph that has a node is a real number. -/
theorem maxOf_real (gate : FVec Ideal S50000 .f32) (ga : Fin 50000 → ℝ) (hg : ∀ n, gate (ix1 n) = (ga n : EReal)) (n : Fin 50000) :
    ∃ r : ℝ, maxOf b gate (ix1 (B n)) = (r : EReal) := by
  have h : maxOf b gate (ix1 (B n)) = Finset.univ.fold max (⊥ : EReal) fun i : Fin 50000 => if B i = B n then (ga i : EReal) else ⊥ := by
    pointwise [maxOf]
    rw [Cert.Pooling.ofBits_neg_inf]
    refine Finset.fold_congr fun i _ => ?_
    rw [hb i, hg i, Cert.Pooling.select_member (by norm_num)]
    refine if_congr Iff.rfl rfl ?_
    exact Cert.Pooling.ofBits_neg_inf
  rw [h]
  refine Cert.Pooling.fold_max_real _ _ (fun i _ => ?_) ⟨n, Finset.mem_univ n, ?_⟩
  · split
    · exact EReal.coe_ne_top _
    · exact bot_ne_top
  · rw [if_pos rfl]; exact EReal.coe_ne_bot _

/-- The exponentials, with some real shift for each graph. -/
theorem eOf_apply (gate : FVec Ideal S50000 .f32) (ga : Fin 50000 → ℝ) (hg : ∀ n, gate (ix1 n) = (ga n : EReal)) :
    ∃ Mx : Fin 64 → ℝ, ∀ n, eOf b gate (ix1 n) = ((Real.exp (ga n - Mx (B n)) : ℝ) : EReal) := by
  refine ⟨fun g => (maxOf b gate (ix1 g)).toReal, fun n => ?_⟩
  obtain ⟨r, hr⟩ := maxOf_real b B hb gate ga hg n
  have h : eOf b gate (ix1 n) = Ideal.exp (gate (ix1 n) - Host.gather gather_S64_S50000x1_S50000_n_0_n_n_0_1_1 (maxOf b gate) (wrapIdx b) (ix1 n)) := rfl
  show _ = ((Real.exp (ga n - (maxOf b gate (ix1 (B n))).toReal) : ℝ) : EReal)
  rw [h, lookup (maxOf b gate) (wrapIdx b) n (B n) (wrapIdx_apply b B hb n), hg n, hr, ← EReal.coe_sub, EReal.toReal_coe]
  exact Cert.Pooling.exp_coe _

/-- The softmax weight of a node. -/
theorem alphaOf_apply (e : FVec Ideal S50000 .f32) (E : Fin 50000 → ℝ) (hE : ∀ n, 0 < E n) (he : ∀ n, e (ix1 n) = (E n : EReal)) (n : Fin 50000) :
    alphaOf b e (ix1 n) = ((E n / Cert.Pooling.den B E (B n) : ℝ) : EReal) := by
  have h (q : FVec Ideal S50000 .f32) : Host.divf e q (ix1 n) = Ideal.div (e (ix1 n)) (q (ix1 n)) := rfl
  have h0 : (broadcastInDim S64 ![] bcast_S_S64 (constant (F := Ideal) S_ .f32 0x00000000#32)) (ix1 (B n)) = (0 : EReal) := by
    pointwise
  unfold alphaOf
  rw [h, lookup _ (wrapIdx b) n (B n) (wrapIdx_apply b B hb n), segsum1, h0, zero_add, he n]
  rw [Finset.sum_congr rfl fun i _ => (if_congr (lands_iff b B hb i (B n)) (he i) rfl : _ = if B i = B n then (E i : EReal) else 0)]
  have h1 : ∑ i, (if B i = B n then (E i : EReal) else 0) = ((Cert.Pooling.den B E (B n) : ℝ) : EReal) := by
    unfold Cert.Pooling.den
    rw [Cert.Pooling.coe_sum]
    exact Finset.sum_congr rfl fun i _ => (Cert.Pooling.coe_ite _ _).symm
  rw [h1, Cert.Pooling.div_coe _ _ (Cert.Pooling.den_pos B E hE (B n) n rfl).ne']

/-- One head's result: over the graph's nodes, the sum of weight times mapped row. -/
theorem headOf_apply (e : FVec Ideal S50000 .f32) (E : Fin 50000 → ℝ) (hE : ∀ n, 0 < E n) (he : ∀ n, e (ix1 n) = (E n : EReal))
    (hf : FVec Ideal S50000x64 .f32) (g o : Fin 64) :
    headOf b e hf (ix2 g o) = ∑ n, if B n = g then ((E n / Cert.Pooling.den B E (B n) : ℝ) : EReal) * hf (ix2 n o) else (0 : EReal) := by
  have h0 : (broadcastInDim S64x64 ![] bcast_S_S64x64 (constant (F := Ideal) S_ .f32 0x00000000#32)) (ix2 g o) = (0 : EReal) := by
    pointwise
  unfold headOf
  rw [segsum2, h0, zero_add]
  refine Finset.sum_congr rfl fun n _ => if_congr (lands_iff b B hb n g) ?_ rfl
  have h1 : (mulf (broadcastInDim S50000x64 ![0, 1] bcast_S50000x1_S50000x64_0_1 (broadcastInDim S50000x1 ![0] bcast_S50000_S50000x1_0 (alphaOf b e))) hf) (ix2 n o)
      = alphaOf b e (ix1 n) * hf (ix2 n o) := by
    pointwise
  rw [h1, alphaOf_apply b B hb e E hE he n]

end Reads

end Cert.ReferenceIdeal.Hand

end
-- ==== Proof.Value.ReferenceValue.lean ====
module

public import proofs.«01_k».proof.Proof.Value.Reference

@[expose] public section

set_option maxRecDepth 16384

noncomputable section

/-! The reference's result, read at one element. -/

namespace Cert.ReferenceIdeal.Hand

open Idealize.ShloMosaic Cert.ReferenceIdeal Cert.ReferenceIdeal.Value Facts₀ Facts

/-- The rows mapped by one head's linear map. -/
def featOf (x : FVec Ideal S50000x256 .f32) (w : FVec Ideal S1x64x256 .f32) (c : FVec Ideal S1x64 .f32) : FVec Ideal S50000x64 .f32 :=
  addf (Host.dotGeneral dot_S50000x256_S256x64_S50000x64_1_0_0_1_n_n none x (transpose S256x64 [1, 0] (shapeCast _ w shapeCasts_S1x64x256_S64x256) transposes_S64x256_S256x64_1_0))
    (broadcastInDim S50000x64 ![0, 1] bcast_S1x64_S50000x64_0_1 (broadcastInDim S1x64 ![1] bcast_S64_S1x64_1 (shapeCast _ c shapeCasts_S1x64_S64)))

/-- A mapped row is the linear map of the row. -/
theorem featOf_apply (x : FVec Ideal S50000x256 .f32) (w : FVec Ideal S1x64x256 .f32) (c : FVec Ideal S1x64 .f32) (n : Fin 50000) (o : Fin 64) :
    featOf x w c (ix2 n o) = (∑ k : Fin 256, (x (ix2 n k) : EReal) * w (ix3 0 o k)) + c (ix2 0 o) := by
  pointwise [featOf]

/-- Column `o` of head `h`. -/
def colOf (h : Fin 4) (o : Fin 64) : Fin 256 := ⟨h.val * 64 + o.val, by omega⟩

variable (V0 : Valuation τ sig (Elt Ideal))

/-- One head's weights of the linear map. -/
def nnW (h : Fin 4) : FVec Ideal S1x64x256 .f32 := match h with
  | 0 => extractStridedSlice S1x64x256 ![0, 0, 0] (V0 (Proc.devRef .tc main_arg3)) slices_S4x64x256_S1x64x256_0_0_0
  | 1 => extractStridedSlice S1x64x256 ![1, 0, 0] (V0 (Proc.devRef .tc main_arg3)) slices_S4x64x256_S1x64x256_1_0_0
  | 2 => extractStridedSlice S1x64x256 ![2, 0, 0] (V0 (Proc.devRef .tc main_arg3)) slices_S4x64x256_S1x64x256_2_0_0
  | 3 => extractStridedSlice S1x64x256 ![3, 0, 0] (V0 (Proc.devRef .tc main_arg3)) slices_S4x64x256_S1x64x256_3_0_0

/-- One head's offsets of the linear map. -/
def nnB (h : Fin 4) : FVec Ideal S1x64 .f32 := match h with
  | 0 => extractStridedSlice S1x64 ![0, 0] (V0 (Proc.devRef .tc main_arg4)) slices_S4x64_S1x64_0_0
  | 1 => extractStridedSlice S1x64 ![1, 0] (V0 (Proc.devRef .tc main_arg4)) slices_S4x64_S1x64_1_0
  | 2 => extractStridedSlice S1x64 ![2, 0] (V0 (Proc.devRef .tc main_arg4)) slices_S4x64_S1x64_2_0
  | 3 => extractStridedSlice S1x64 ![3, 0] (V0 (Proc.devRef .tc main_arg4)) slices_S4x64_S1x64_3_0

/-- One head's scores. -/
def gateOf (h : Fin 4) : FVec Ideal S50000 .f32 := match h with
  | 0 => res_main_v2 V0
  | 1 => res_main_v49 V0
  | 2 => res_main_v96 V0
  | 3 => res_main_v143 V0

/-- One head's weights at an element. -/
theorem nnW_apply (h : Fin 4) (o : Fin 64) (k : Fin 256) : nnW V0 h (ix3 0 o k) = (V0 (Proc.devRef .tc main_arg3) : FVec Ideal S4x64x256 .f32) (ix3 h o k) := by
  match h with
  | 0 => pointwise [nnW]
  | 1 => pointwise [nnW]
  | 2 => pointwise [nnW]
  | 3 => pointwise [nnW]

/-- One head's offsets at an element. -/
theorem nnB_apply (h : Fin 4) (o : Fin 64) : nnB V0 h (ix2 0 o) = (V0 (Proc.devRef .tc main_arg4) : FVec Ideal S4x64 .f32) (ix2 h o) := by
  match h with
  | 0 => pointwise [nnB]
  | 1 => pointwise [nnB]
  | 2 => pointwise [nnB]
  | 3 => pointwise [nnB]

/-- The score of a node for one head. -/
def score (X : Fin 50000 → Fin 256 → ℝ) (G : Fin 4 → Fin 256 → ℝ) (h : Fin 4) (n : Fin 50000) : ℝ := ∑ k, G h k * X n k

/-- One head's score of a node. -/
theorem gateOf_apply (X : Fin 50000 → Fin 256 → ℝ) (G : Fin 4 → Fin 256 → ℝ)
    (hX : ∀ n k, (V0 (Proc.devRef .tc main_arg0) : FVec Ideal S50000x256 .f32) (ix2 n k) = (X n k : EReal))
    (hG : ∀ h k, (V0 (Proc.devRef .tc main_arg2) : FVec Ideal S4x256 .f32) (ix2 h k) = (G h k : EReal)) (h : Fin 4) (n : Fin 50000) :
    gateOf V0 h (ix1 n) = (score X G h n : EReal) := by
  have e : (score X G h n : EReal) = ∑ k, (X n k : EReal) * (G h k : EReal) := by
    unfold score
    rw [Cert.Pooling.coe_sum]
    exact Finset.sum_congr rfl fun k _ => by rw [EReal.coe_mul, mul_comm]
  refine Eq.trans ?_ e.symm
  match h with
  | 0 =>
    pointwise [gateOf, res_main_v2]
    exact Finset.sum_congr rfl fun k _ => Ideal.mul_congr (hX n k) (hG 0 k)
  | 1 =>
    pointwise [gateOf, res_main_v49]
    exact Finset.sum_congr rfl fun k _ => Ideal.mul_congr (hX n k) (hG 1 k)
  | 2 =>
    pointwise [gateOf, res_main_v96]
    exact Finset.sum_congr rfl fun k _ => Ideal.mul_congr (hX n k) (hG 2 k)
  | 3 =>
    pointwise [gateOf, res_main_v143]
    exact Finset.sum_congr rfl fun k _ => Ideal.mul_congr (hX n k) (hG 3 k)

/-- One head's result. -/
def headRes (h : Fin 4) : FVec Ideal S64x64 .f32 :=
  headOf (V0 (Proc.devRef .tc main_arg1)) (eOf (V0 (Proc.devRef .tc main_arg1)) (gateOf V0 h)) (featOf (V0 (Proc.devRef .tc main_arg0)) (nnW V0 h) (nnB V0 h))

/-- The reference's result: the four heads' results side by side. -/
theorem res_eq : res_main_v188 V0 = concatenate S64x256 1 [⟨S64x64, headRes V0 0⟩, ⟨S64x64, headRes V0 1⟩, ⟨S64x64, headRes V0 2⟩, ⟨S64x64, headRes V0 3⟩] concatenates_S64x64_S64x64_S64x64_S64x64_S64x256_d1 := rfl

/-- The reference's result at the column of one head. -/
theorem res_apply (h : Fin 4) (g o : Fin 64) : res_main_v188 V0 (ix2 g (colOf h o)) = headRes V0 h (ix2 g o) := by
  rw [res_eq]
  pointwise
  have ho := o.isLt
  obtain ⟨h, hh⟩ := h
  obtain rfl | rfl | rfl | rfl : h = 0 ∨ h = 1 ∨ h = 2 ∨ h = 3 := by omega
  · have hr : (colOf ⟨0, hh⟩ o).val = 0 * 64 + o.val := rfl
    rw [dif_pos (by omega)]
    exact congrArg (fun a => headRes V0 0 (ix2 g a)) (Fin.ext (show (colOf ⟨0, hh⟩ o).val = o.val by omega))
  · have hr : (colOf ⟨1, hh⟩ o).val = 1 * 64 + o.val := rfl
    rw [dif_neg (by omega), dif_pos (by omega)]
    exact congrArg (fun a => headRes V0 1 (ix2 g a)) (Fin.ext (show (colOf ⟨1, hh⟩ o).val - 64 = o.val by omega))
  · have hr : (colOf ⟨2, hh⟩ o).val = 2 * 64 + o.val := rfl
    rw [dif_neg (by omega), dif_neg (by omega), dif_pos (by omega)]
    exact congrArg (fun a => headRes V0 2 (ix2 g a)) (Fin.ext (show (colOf ⟨2, hh⟩ o).val - 64 - 64 = o.val by omega))
  · have hr : (colOf ⟨3, hh⟩ o).val = 3 * 64 + o.val := rfl
    rw [dif_neg (by omega), dif_neg (by omega), dif_neg (by omega)]
    exact congrArg (fun a => headRes V0 3 (ix2 g a)) (Fin.ext (show (colOf ⟨3, hh⟩ o).val - 64 - 64 - 64 = o.val by omega))

/-- One head's result over the graph's nodes: the sum of softmax weight times mapped row. -/
theorem headRes_apply (B : Fin 50000 → Fin 64) (X : Fin 50000 → Fin 256 → ℝ) (G : Fin 4 → Fin 256 → ℝ) (W : Fin 4 → Fin 64 → Fin 256 → ℝ)
    (hB : ∀ n, (V0 (Proc.devRef .tc main_arg1) : IVec S50000 32) (ix1 n) = BitVec.ofNat 32 (B n).val)
    (hX : ∀ n k, (V0 (Proc.devRef .tc main_arg0) : FVec Ideal S50000x256 .f32) (ix2 n k) = (X n k : EReal))
    (hG : ∀ h k, (V0 (Proc.devRef .tc main_arg2) : FVec Ideal S4x256 .f32) (ix2 h k) = (G h k : EReal))
    (hW : ∀ h o k, (V0 (Proc.devRef .tc main_arg3) : FVec Ideal S4x64x256 .f32) (ix3 h o k) = (W h o k : EReal)) (h : Fin 4) :
    ∃ Mx : Fin 64 → ℝ, ∀ g o, headRes V0 h (ix2 g o) = ∑ n, if B n = g then
      ((Real.exp (score X G h n - Mx (B n)) / Cert.Pooling.den B (fun i => Real.exp (score X G h i - Mx (B i))) (B n) : ℝ) : EReal)
        * ((∑ k, (X n k : EReal) * (W h o k : EReal)) + (V0 (Proc.devRef .tc main_arg4) : FVec Ideal S4x64 .f32) (ix2 h o)) else (0 : EReal) := by
  obtain ⟨Mx, hM⟩ := eOf_apply (V0 (Proc.devRef .tc main_arg1)) B hB (gateOf V0 h) (score X G h) (gateOf_apply V0 X G hX hG h)
  refine ⟨Mx, fun g o => ?_⟩
  refine (headOf_apply (V0 (Proc.devRef .tc main_arg1)) B hB _ (fun n => Real.exp (score X G h n - Mx (B n))) (fun n => Real.exp_pos _) hM _ g o).trans ?_
  refine Finset.sum_congr rfl fun n _ => if_congr Iff.rfl ?_ rfl
  refine Ideal.mul_congr rfl ((featOf_apply _ _ _ n o).trans (Ideal.add_congr (Finset.sum_congr rfl fun k _ => Ideal.mul_congr (hX n k) ((nnW_apply V0 h o k).trans (hW h o k))) (nnB_apply V0 h o)))

end Cert.ReferenceIdeal.Hand

end
-- ==== Proof.Value.Pre.lean ====
module

public import proofs.«01_k».proof.Proof.Gen.Pre_in_range_and_finite
public import proofs.«01_k».proof.Proof.Value.Softmax

@[expose] public section

set_option maxRecDepth 16384

noncomputable section

/-! What the precondition says of the argument arrays: every graph word is one of the 64, and the features and
    weights are real numbers. -/

namespace Cert.Pre_in_range_and_finite.Hand

open Idealize.ShloMosaic Cert.Pre_in_range_and_finite Facts

/-- A value whose absolute value is below infinity is a real number. -/
theorem real_of_abs (v : EReal) (h : BitVec.ofBool (decide (max v (-v) < Ideal.ofBits .f32 0x7F800000#32)) = 1#1) : ∃ r : ℝ, v = (r : EReal) := by
  rw [StableHlo.Predicate.ofBool_eq_one_iff, decide_eq_true_eq, Cert.Pooling.ofBits_inf, max_lt_iff] at h
  have hb : v ≠ ⊥ := fun e => by rw [e] at h; exact absurd h.2 (by simp)
  exact ⟨v.toReal, (EReal.coe_toReal h.1.ne hb).symm⟩

/-- A word between 0 and 63 is the word of a graph. -/
theorem graph_of_word (w : BitVec 32) (h : IntOp.andi (IntOp.cmpi .sge w 0#32) (IntOp.cmpi .slt w 64#32) = 1#1) : ∃ b : Fin 64, w = BitVec.ofNat 32 b.val := by
  have hp (p q : Bool) : BitVec.ofBool p &&& BitVec.ofBool q = 1#1 → p = true ∧ q = true := by revert p q; decide
  have h2 : (0#32).sle w = true ∧ w.slt 64#32 = true := hp _ _ h
  have h' : w.toNat < 64 := by
    obtain ⟨h3, h4⟩ := h2
    rw [BitVec.sle_iff_toInt_le] at h3
    rw [BitVec.slt_iff_toInt_lt] at h4
    have e0 : (0#32).toInt = 0 := by decide
    have e1 : (64#32).toInt = 64 := by decide
    rw [e0] at h3
    rw [e1] at h4
    rw [BitVec.toInt_eq_toNat_cond] at h3 h4
    have := w.isLt
    split at h3 <;> omega
  exact ⟨⟨w.toNat, h'⟩, by simp⟩

variable (x : FVec Ideal S50000x256 .f32) (b : IVec S50000 32) (gw : FVec Ideal S4x256 .f32) (nw : FVec Ideal S4x64x256 .f32) (nb : FVec Ideal S4x64 .f32)

/-- Every node's graph. -/
theorem graphs (h : (fn (F := Ideal) x b gw nw nb).1 = fun _ => 1#1) : ∃ B : Fin 50000 → Fin 64, ∀ n, b (ix1 n) = BitVec.ofNat 32 (B n).val := by
  have e (n : Fin 50000) : ∃ g : Fin 64, b (ix1 n) = BitVec.ofNat 32 g.val := by
    refine graph_of_word _ (Eq.trans ?_ (congrFun h (ix1 n)))
    pointwise [fn]
  choose B hB using e
  exact ⟨B, hB⟩

/-- The features. -/
theorem features (h : (fn (F := Ideal) x b gw nw nb).2.1 = fun _ => 1#1) : ∃ X : Fin 50000 → Fin 256 → ℝ, ∀ n k, x (ix2 n k) = (X n k : EReal) := by
  have e (n : Fin 50000) (k : Fin 256) : ∃ r : ℝ, x (ix2 n k) = (r : EReal) := by
    refine real_of_abs _ (Eq.trans ?_ (congrFun h (ix2 n k)))
    pointwise [fn]
    rfl
  choose X hX using e
  exact ⟨X, hX⟩

/-- The scores' weights. -/
theorem gates (h : (fn (F := Ideal) x b gw nw nb).2.2.1 = fun _ => 1#1) : ∃ G : Fin 4 → Fin 256 → ℝ, ∀ n k, gw (ix2 n k) = (G n k : EReal) := by
  have e (n : Fin 4) (k : Fin 256) : ∃ r : ℝ, gw (ix2 n k) = (r : EReal) := by
    refine real_of_abs _ (Eq.trans ?_ (congrFun h (ix2 n k)))
    pointwise [fn]
    rfl
  choose X hX using e
  exact ⟨X, hX⟩

/-- The linear maps' weights. -/
theorem maps (h : (fn (F := Ideal) x b gw nw nb).2.2.2 = fun _ => 1#1) : ∃ W : Fin 4 → Fin 64 → Fin 256 → ℝ, ∀ d o k, nw (ix3 d o k) = (W d o k : EReal) := by
  have e (d : Fin 4) (o : Fin 64) (k : Fin 256) : ∃ r : ℝ, nw (ix3 d o k) = (r : EReal) := by
    refine real_of_abs _ (Eq.trans ?_ (congrFun h (ix3 d o k)))
    pointwise [fn]
    rfl
  choose X hX using e
  exact ⟨X, hX⟩

end Cert.Pre_in_range_and_finite.Hand

end
-- ==== Proof.Value.Agree.lean ====
module

public import proofs.«01_k».proof.Defs
public import proofs.«01_k».proof.Proof.Value.KernelValue
public import proofs.«01_k».proof.Proof.Value.ReferenceValue
public import proofs.«01_k».proof.Proof.Value.Pre

@[expose] public section

set_option maxRecDepth 16384

noncomputable section

/-! The kernel's result and the reference's, element by element. -/

namespace Cert.Agree

open Idealize.ShloMosaic Idealize.ShloMosaic.TcCoe

/-- Under the precondition and from equal arguments, the reference's result is the kernel's. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_in_range_and_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Value.res_main_v188 (StableHlo.launchContents m' c) : FVec Ideal Cert.ReferenceIdeal.S64x256 .f32)
      = ((Cert.KernelIdeal.Hand.dats m 0 c).arrAt 5 Cert.KernelIdeal.cfg0.N : FVec Ideal Cert.KernelIdeal.S64x256 .f32) := by
  obtain ⟨p0, p1, p2, p3⟩ := hpre c
  obtain ⟨B, hB⟩ := Cert.Pre_in_range_and_finite.Hand.graphs _ _ _ _ _ p0
  obtain ⟨X, hX⟩ := Cert.Pre_in_range_and_finite.Hand.features _ _ _ _ _ p1
  obtain ⟨G, hG⟩ := Cert.Pre_in_range_and_finite.Hand.gates _ _ _ _ _ p2
  obtain ⟨W, hW⟩ := Cert.Pre_in_range_and_finite.Hand.maps _ _ _ _ _ p3
  rw [Cert.KernelIdeal.Hand.result_eq m c]
  funext j
  obtain ⟨g, l, rfl⟩ : ∃ (g : Fin 64) (l : Fin 256), j = ix2 g l := ⟨j 0, j 1, funext fun a => by match a with | 0 => rfl | 1 => rfl⟩
  have hl := l.isLt
  obtain ⟨d, o, rfl⟩ : ∃ (d : Fin 4) (o : Fin 64), l = Cert.KernelIdeal.Hand.rowOf d o :=
    ⟨⟨l.val / 64, by omega⟩, ⟨l.val % 64, by omega⟩, Fin.ext (show l.val = l.val / 64 * 64 + l.val % 64 by omega)⟩
  obtain ⟨Mx, hR⟩ := Cert.ReferenceIdeal.Hand.headRes_apply (StableHlo.launchContents m' c) B X G W
    (fun n => (congrFun h1 (ix1 n)).trans (hB n)) (fun n k => (congrFun h0 (ix2 n k)).trans (hX n k))
    (fun h k => (congrFun h2 (ix2 h k)).trans (hG h k)) (fun h o k => (congrFun h3 (ix3 h o k)).trans (hW h o k)) d
  refine (Cert.ReferenceIdeal.Hand.res_apply (StableHlo.launchContents m' c) d g o).trans ((hR g o).trans ?_)
  refine Eq.trans ?_ (Cert.KernelIdeal.Hand.kernel_apply m c B X G W hB hX hG hW Cert.KernelIdeal.Gen.t0_10 rfl d g o Mx).symm
  have e : StableHlo.launchContents m' c (Proc.devRef .tc Cert.ReferenceIdeal.main_arg4) = m ((c.tc : Thread Cert.KernelIdeal.nD Cert.KernelIdeal.τ).loc Cert.KernelIdeal.main_arg4) := h4
  exact Finset.sum_congr rfl fun n _ => if_congr Iff.rfl (Ideal.mul_congr rfl (Ideal.add_congr rfl (congrFun e (ix2 d o)))) rfl

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range_and_finite
public import proofs.«01_k».proof.Proof.Kernel.Frame
public import proofs.«01_k».proof.Proof.KernelIdeal.Frame
public import proofs.«01_k».proof.Proof.Value.Agree
public import Idealize.ShloMosaic.Adequacy
public import Idealize.ShloMosaic.Init

@[expose] public section

noncomputable section

namespace Cert.Proof

open Idealize.ShloMosaic Idealize.SL.Sem Cert.Kernel

/-- The reference runs, its arguments unchanged and every counter at zero. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0 :=
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The kernel's run: the result array at what its last point stores, the arguments unchanged. -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r => ∀ c : Dev Cert.KernelIdeal.nD,
      r.2.mem ((c.tc : Thread Cert.KernelIdeal.nD Cert.KernelIdeal.τ).loc Cert.KernelIdeal.main_v2) = (Cert.KernelIdeal.Hand.dats m 0 c).arrAt 5 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  (θ_run Cert.KernelIdeal.defs _ _).mono (fun _ h c => ⟨(h.1 c).1 5, h.2.1 c⟩)
    (θ_run_and (Cert.KernelIdeal.Hand.run_main m g) (Cert.KernelIdeal.Hand.frame m g))

/-- Under the precondition the kernel and the reference, from equal arguments, end with equal results. -/
theorem algebraic : Cert.algebraic_KernelIdeal_ReferenceIdeal_pre_in_range_and_finite := by
  intro m g m' g' hpre hargs
  refine ⟨fun c => (Cert.KernelIdeal.Hand.dats m 0 c).arrAt 5 Cert.KernelIdeal.cfg0.N, run_kernel m g, ?_⟩
  refine (θ_run Cert.ReferenceIdeal.defs _ _).mono (fun r h c => ⟨(h c).1.trans ?_, (h c).2⟩) (Cert.ReferenceIdeal.Value.run (F := Ideal) m' g')
  exact Cert.Agree.results m m' hpre c (hargs c).1 (hargs c).2.1 (hargs c).2.2.1 (hargs c).2.2.2.1 (hargs c).2.2.2.2

/-- All the claims. -/
theorem claim : Cert.Claim := ⟨Cert.Kernel.Gen.facts, Cert.KernelIdeal.Gen.facts, Cert.ReferenceIdeal.Gen.facts, Cert.Pre_in_range_and_finite.Gen.facts,
  fun m g _ => Cert.Kernel.Hand.frame m g,
  fun m g _ => Cert.KernelIdeal.Hand.frame m g,
  fun m g _ => Cert.KernelIdeal.Hand.frame m g,
  fun m g _ => frame_reference m g,
  fun m g _ => frame_reference m g,
  trivial, algebraic⟩

end Cert.Proof

end
